-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x128x64 : S_.BroadcastsInDim S2x512x128x64 (![] : Fin 0 → Fin S2x512x128x64.rank)

variable [Facts]

def fn {F : FTy → Type} [FloatOps F] (main_arg0 : FVec F S2x512x768 .bf16) (main_arg1 : FVec F S768x512 .bf16) (main_arg2 : FVec F S2x512x128x64 .bf16) (main_arg3 : FVec F S2x512x128x64 .bf16) (main_arg4 : FVec F S512x768 .bf16) : IVec S2x512x768 1 × IVec S768x512 1 × IVec S2x512x128x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x512x128x64 .bf16 := Host.absf main_arg2
  let main_cst_1 : FVec F S_ .bf16 := constant S_ .bf16 0x7F80#16
  let main_v7 : FVec F S2x512x128x64 .bf16 := broadcastInDim S2x512x128x64 ![] bcast_S_S2x512x128x64 main_cst_1
  let main_v8 : IVec S2x512x128x64 1 := cmpf .olt main_v6 main_v7
  (main_v2, main_v5, main_v8)
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  bcast_S_S768x8192 : S_.BroadcastsInDim S768x8192 (![] : Fin 0 → Fin S768x8192.rank)
  bcast_S_S2x512x128x64 : S_.BroadcastsInDim S2x512x128x64 (![] : Fin 0 → Fin S2x512x128x64.rank)

variable [Facts]

def fn {F : FTy → Type} [FloatOps F] (main_arg0 : FVec F S2x512x768 .bf16) (main_arg1 : FVec F S768x8192 .bf16) (main_arg2 : FVec F S2x512x128x64 .bf16) (main_arg3 : FVec F S2x512x128x64 .bf16) (main_arg4 : FVec F S8192x768 .bf16) : IVec S2x512x768 1 × IVec S768x8192 1 × IVec S2x512x128x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x8192 .bf16 := Host.absf main_arg1
  let main_cst_0 : FVec F S_ .bf16 := constant S_ .bf16 0x7F80#16
  let main_v4 : FVec F S768x8192 .bf16 := broadcastInDim S768x8192 ![] bcast_S_S768x8192 main_cst_0
  let main_v5 : IVec S768x8192 1 := cmpf .olt main_v3 main_v4
  let main_v6 : FVec F S2x512x128x64 .bf16 := Host.absf main_arg2
  let main_cst_1 : FVec F S_ .bf16 := constant S_ .bf16 0x7F80#16
  let main_v7 : FVec F S2x512x128x64 .bf16 := broadcastInDim S2x512x128x64 ![] bcast_S_S2x512x128x64 main_cst_1
  let main_v8 : IVec S2x512x128x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩
abbrev S2x512x512 : Shape := ⟨3, ![2, 512, 512]⟩
abbrev S2x512x8x64 : Shape := ⟨4, ![2, 512, 8, 64]⟩
abbrev S2x8x512x64 : Shape := ⟨4, ![2, 8, 512, 64]⟩
abbrev S1024x768 : Shape := ⟨2, ![1024, 768]⟩
abbrev S8 : Shape := ⟨1, ![8]⟩
abbrev S512x512 : Shape := ⟨2, ![512, 512]⟩
abbrev S1x1x512x64 : Shape := ⟨4, ![1, 1, 512, 64]⟩
abbrev S512x64 : Shape := ⟨2, ![512, 64]⟩
abbrev S512 : Shape := ⟨1, ![512]⟩
abbrev S512x1 : Shape := ⟨2, ![512, 1]⟩
abbrev S64x768 : Shape := ⟨2, ![64, 768]⟩
abbrev S1 : Shape := ⟨1, ![1]⟩
abbrev S512x384 : Shape := ⟨2, ![512, 384]⟩
abbrev S256x384 : Shape := ⟨2, ![256, 384]⟩
abbrev S128x384 : Shape := ⟨2, ![128, 384]⟩
abbrev S64x384 : Shape := ⟨2, ![64, 384]⟩

abbrev nBuf : Space → Nat
  | .hbm => 41
  | .vmem => 7
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x128x64, .bf16⟩
  | .hbm, ⟨3, _⟩ => ⟨S2x512x128x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x512, .f32⟩
  | .hbm, ⟨12, _⟩ => ⟨S2x512x512, .bf16⟩
  | .hbm, ⟨13, _⟩ => ⟨S2x512x8x64, .bf16⟩
  | .hbm, ⟨14, _⟩ => ⟨S2x8x512x64, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2x512x8x64, .bf16⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S2x512x8x64, .bf16⟩
  | .hbm, ⟨37, _⟩ => ⟨S2x8x512x64, .bf16⟩
  | .hbm, ⟨38, _⟩ => ⟨S2x8x512x64, .bf16⟩
  | .hbm, ⟨39, _⟩ => ⟨S1024x768, .bf16⟩
  | .hbm, ⟨40, _⟩ => ⟨S2x512x768, .bf16⟩
  | .local _ .vmem, ⟨0, _⟩ => ⟨S2x8x512x64, .bf16⟩
  | .local _ .vmem, ⟨1, _⟩ => ⟨S2x8x512x64, .bf16⟩
  | .local _ .vmem, ⟨2, _⟩ => ⟨S2x8x512x64, .bf16⟩
  | .local _ .vmem, ⟨3, _⟩ => ⟨S512x768, .bf16⟩
  | .local _ .vmem, ⟨4, _⟩ => ⟨S1024x768, .bf16⟩
  | .local _ .vmem, ⟨5, _⟩ => ⟨S1024x768, .f32⟩
  | .local _ .vmem, ⟨6, _⟩ => ⟨S1024x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_c_5 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_v17 : Ref sig .tc := ⟨.hbm, 32, rfl⟩
abbrev main_c_10 : Ref sig .tc := ⟨.hbm, 33, rfl⟩
abbrev main_c_11 : Ref sig .tc := ⟨.hbm, 34, rfl⟩
abbrev main_c_12 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.xori v2 c1_i32_8
  let c1_i32_11 : BitVec 32 := 1#32
  let v18 : BitVec 32 := Scalar.muli v13 c1_i32_11
  let v19 : BitVec 32 := Scalar.addi c0_i32_12 v18
  v19.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.xori v2 c3_i32
  let c1_i32_14 : BitVec 32 := 1#32
  let v20 : BitVec 32 := Scalar.muli v14 c1_i32_14
  let v21 : BitVec 32 := Scalar.addi c0_i32_15 v20
  v21.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v15 : BitVec 32 := Scalar.xori v2 c4_i32_9
  let c1_i32_17 : BitVec 32 := 1#32
  let v22 : BitVec 32 := Scalar.muli v15 c1_i32_17
  let v23 : BitVec 32 := Scalar.addi c0_i32_18 v22
  v23.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_20 : BitVec 32 := 1#32
  let v24 : BitVec 32 := Scalar.muli v16 c1_i32_20
  let v25 : BitVec 32 := Scalar.addi c0_i32_21 v24
  v25.toNat
def k0_off1 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v44 : BitVec 32 := Scalar.subi c1_i32_28 v8
  let c512_i32 : BitVec 32 := 512#32
  let v45 : BitVec 32 := Scalar.muli v44 c512_i32
  let c0_i32_35 : BitVec 32 := 0#32
  ![v45.toNat, 0]
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.xori v2 c1_i32_8
  let c1_i32_31 : BitVec 32 := 1#32
  let v46 : BitVec 32 := Scalar.muli v13 c1_i32_31
  let v47 : BitVec 32 := Scalar.addi c0_i32_32 v46
  v47.toNat
def k0_off2 (d0 : Dev nD) : Fin 2 → Nat :=
  let c0_i32_44 : BitVec 32 := 0#32
  let c1_i32_42 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let v62 : BitVec 32 := Scalar.subi c1_i32_42 v11
  let c512_i32_43 : BitVec 32 := 512#32
  let v63 : BitVec 32 := Scalar.muli v62 c512_i32_43
  let v64 : BitVec 32 := Scalar.addi c0_i32_44 v63
  let c384_i32_50 : BitVec 32 := 384#32
  ![v64.toNat, 384]
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v15 : BitVec 32 := Scalar.xori v2 c4_i32_9
  let c1_i32_47 : BitVec 32 := 1#32
  let v65 : BitVec 32 := Scalar.muli v15 c1_i32_47
  let v66 : BitVec 32 := Scalar.addi c0_i32_48 v65
  v66.toNat
def k0_off3 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let v85 : Index := Scalar.indexCast v61
  let c0 : Index := 0#32
  ![v85.toNat, 0]
def k0_off4 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c1_i32_69 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v92 : BitVec 32 := Scalar.subi c1_i32_69 v10
  let c256_i32 : BitVec 32 := 256#32
  let v93 : BitVec 32 := Scalar.muli v92 c256_i32
  let v94 : BitVec 32 := Scalar.addi v61 v93
  let c0_i32_76 : BitVec 32 := 0#32
  ![v94.toNat, 0]
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.xori v2 c3_i32
  let c1_i32_72 : BitVec 32 := 1#32
  let v95 : BitVec 32 := Scalar.muli v14 c1_i32_72
  let v96 : BitVec 32 := Scalar.addi c0_i32_73 v95
  v96.toNat
def k0_off5 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let v115 : Index := Scalar.indexCast v74
  let c384 : Index := 384#32
  ![v115.toNat, 384]
def k0_off6 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c1_i32_94 : BitVec 32 := 1#32
  let c2_i32_7 : BitVec 32 := 2#32
  let v12 : BitVec 32 := Scalar.divsi v4 c2_i32_7
  let v122 : BitVec 32 := Scalar.subi c1_i32_94 v12
  let c256_i32_95 : BitVec 32 := 256#32
  let v123 : BitVec 32 := Scalar.muli v122 c256_i32_95
  let v124 : BitVec 32 := Scalar.addi v74 v123
  let c384_i32_101 : BitVec 32 := 384#32
  ![v124.toNat, 384]
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_97 : BitVec 32 := 1#32
  let v125 : BitVec 32 := Scalar.muli v16 c1_i32_97
  let v126 : BitVec 32 := Scalar.addi c0_i32_98 v125
  v126.toNat
def k0_off7 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let v145 : Index := Scalar.indexCast v104
  let c0_116 : Index := 0#32
  ![v145.toNat, 0]
def k0_off8 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c1_i32_119 : BitVec 32 := 1#32
  let c4_i32_0 : BitVec 32 := 4#32
  let v4 : BitVec 32 := Scalar.divsi v2 c4_i32_0
  let c2_i32_6 : BitVec 32 := 2#32
  let v11 : BitVec 32 := Scalar.remsi v4 c2_i32_6
  let v152 : BitVec 32 := Scalar.subi c1_i32_119 v11
  let c128_i32_120 : BitVec 32 := 128#32
  let v153 : BitVec 32 := Scalar.muli v152 c128_i32_120
  let v154 : BitVec 32 := Scalar.addi v104 v153
  let c0_i32_126 : BitVec 32 := 0#32
  ![v154.toNat, 0]
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v15 : BitVec 32 := Scalar.xori v2 c4_i32_9
  let c1_i32_123 : BitVec 32 := 1#32
  let v155 : BitVec 32 := Scalar.muli v15 c1_i32_123
  let v156 : BitVec 32 := Scalar.addi c0_i32_124 v155
  v156.toNat
def k0_off9 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let v175 : Index := Scalar.indexCast v134
  let c384_141 : Index := 384#32
  ![v175.toNat, 384]
def k0_off10 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c1_i32_145 : BitVec 32 := 1#32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let v182 : BitVec 32 := Scalar.subi c1_i32_145 v8
  let c128_i32_146 : BitVec 32 := 128#32
  let v183 : BitVec 32 := Scalar.muli v182 c128_i32_146
  let v184 : BitVec 32 := Scalar.addi v134 v183
  let c384_i32_152 : BitVec 32 := 384#32
  ![v184.toNat, 384]
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.xori v2 c1_i32_8
  let c1_i32_148 : BitVec 32 := 1#32
  let v185 : BitVec 32 := Scalar.muli v13 c1_i32_148
  let v186 : BitVec 32 := Scalar.addi c0_i32_149 v185
  v186.toNat
def k0_off11 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let v205 : Index := Scalar.indexCast v164
  let c0_167 : Index := 0#32
  ![v205.toNat, 0]
def k0_off12 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c1_i32_170 : BitVec 32 := 1#32
  let c2_i32_7 : BitVec 32 := 2#32
  let v12 : BitVec 32 := Scalar.divsi v4 c2_i32_7
  let v212 : BitVec 32 := Scalar.subi c1_i32_170 v12
  let c64_i32 : BitVec 32 := 64#32
  let v213 : BitVec 32 := Scalar.muli v212 c64_i32
  let v214 : BitVec 32 := Scalar.addi v164 v213
  let c0_i32_176 : BitVec 32 := 0#32
  ![v214.toNat, 0]
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_173 : BitVec 32 := 1#32
  let v215 : BitVec 32 := Scalar.muli v16 c1_i32_173
  let v216 : BitVec 32 := Scalar.addi c0_i32_174 v215
  v216.toNat
def k0_off13 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let v235 : Index := Scalar.indexCast v194
  let c384_191 : Index := 384#32
  ![v235.toNat, 384]
def k0_off14 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c1_i32_195 : BitVec 32 := 1#32
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let v242 : BitVec 32 := Scalar.subi c1_i32_195 v10
  let c64_i32_196 : BitVec 32 := 64#32
  let v243 : BitVec 32 := Scalar.muli v242 c64_i32_196
  let v244 : BitVec 32 := Scalar.addi v194 v243
  let c384_i32_202 : BitVec 32 := 384#32
  ![v244.toNat, 384]
def k0_dev12 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.xori v2 c3_i32
  let c1_i32_198 : BitVec 32 := 1#32
  let v245 : BitVec 32 := Scalar.muli v14 c1_i32_198
  let v246 : BitVec 32 := Scalar.addi c0_i32_199 v245
  v246.toNat
def k0_off15 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c2_i32_7 : BitVec 32 := 2#32
  let v12 : BitVec 32 := Scalar.divsi v4 c2_i32_7
  let c64_i32_177 : BitVec 32 := 64#32
  let v223 : BitVec 32 := Scalar.muli v12 c64_i32_177
  let v224 : BitVec 32 := Scalar.addi v164 v223
  let v265 : Index := Scalar.indexCast v224
  let c0_217 : Index := 0#32
  ![v265.toNat, 0]
def k0_off16 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c2_i32_7 : BitVec 32 := 2#32
  let v12 : BitVec 32 := Scalar.divsi v4 c2_i32_7
  let c64_i32_177 : BitVec 32 := 64#32
  let v223 : BitVec 32 := Scalar.muli v12 c64_i32_177
  let v224 : BitVec 32 := Scalar.addi v164 v223
  let c0_i32_224 : BitVec 32 := 0#32
  ![v224.toNat, 0]
def k0_dev13 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_222 : BitVec 32 := 1#32
  let v272 : BitVec 32 := Scalar.muli v16 c1_i32_222
  let v273 : BitVec 32 := Scalar.addi c0_i32_223 v272
  v273.toNat
def k0_off17 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_203 : BitVec 32 := 64#32
  let v253 : BitVec 32 := Scalar.muli v10 c64_i32_203
  let v254 : BitVec 32 := Scalar.addi v194 v253
  let v290 : Index := Scalar.indexCast v254
  let c384_239 : Index := 384#32
  ![v290.toNat, 384]
def k0_off18 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_203 : BitVec 32 := 64#32
  let v253 : BitVec 32 := Scalar.muli v10 c64_i32_203
  let v254 : BitVec 32 := Scalar.addi v194 v253
  let c384_i32_247 : BitVec 32 := 384#32
  ![v254.toNat, 384]
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.xori v2 c3_i32
  let c1_i32_245 : BitVec 32 := 1#32
  let v297 : BitVec 32 := Scalar.muli v14 c1_i32_245
  let v298 : BitVec 32 := Scalar.addi c0_i32_246 v297
  v298.toNat
def k0_off19 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c2_i32_7 : BitVec 32 := 2#32
  let v12 : BitVec 32 := Scalar.divsi v4 c2_i32_7
  let c64_i32_177 : BitVec 32 := 64#32
  let v223 : BitVec 32 := Scalar.muli v12 c64_i32_177
  let v224 : BitVec 32 := Scalar.addi v164 v223
  let c64_i32_260 : BitVec 32 := 64#32
  let v315 : BitVec 32 := Scalar.muli v12 c64_i32_260
  let v316 : BitVec 32 := Scalar.subi v224 v315
  let c0_i32_265 : BitVec 32 := 0#32
  ![v316.toNat, 0]
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v15 : BitVec 32 := Scalar.xori v2 c4_i32_9
  let c1_i32_263 : BitVec 32 := 1#32
  let v317 : BitVec 32 := Scalar.muli v15 c1_i32_263
  let v318 : BitVec 32 := Scalar.addi c0_i32_264 v317
  v318.toNat
def k0_off20 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_203 : BitVec 32 := 64#32
  let v253 : BitVec 32 := Scalar.muli v10 c64_i32_203
  let v254 : BitVec 32 := Scalar.addi v194 v253
  let c64_i32_278 : BitVec 32 := 64#32
  let v335 : BitVec 32 := Scalar.muli v10 c64_i32_278
  let v336 : BitVec 32 := Scalar.subi v254 v335
  let c384_i32_283 : BitVec 32 := 384#32
  ![v336.toNat, 384]
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.xori v2 c1_i32_8
  let c1_i32_281 : BitVec 32 := 1#32
  let v337 : BitVec 32 := Scalar.muli v13 c1_i32_281
  let v338 : BitVec 32 := Scalar.addi c0_i32_282 v337
  v338.toNat
def k0_off21 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c2_i32_7 : BitVec 32 := 2#32
  let v12 : BitVec 32 := Scalar.divsi v4 c2_i32_7
  let c64_i32_177 : BitVec 32 := 64#32
  let v223 : BitVec 32 := Scalar.muli v12 c64_i32_177
  let v224 : BitVec 32 := Scalar.addi v164 v223
  let c64_i32_260 : BitVec 32 := 64#32
  let v315 : BitVec 32 := Scalar.muli v12 c64_i32_260
  let v316 : BitVec 32 := Scalar.subi v224 v315
  let c128_i32_296 : BitVec 32 := 128#32
  let v355 : BitVec 32 := Scalar.muli v11 c128_i32_296
  let v356 : BitVec 32 := Scalar.subi v316 v355
  let c0_i32_301 : BitVec 32 := 0#32
  ![v356.toNat, 0]
def k0_dev17 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.xori v2 c3_i32
  let c1_i32_299 : BitVec 32 := 1#32
  let v357 : BitVec 32 := Scalar.muli v14 c1_i32_299
  let v358 : BitVec 32 := Scalar.addi c0_i32_300 v357
  v358.toNat
def k0_off22 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_203 : BitVec 32 := 64#32
  let v253 : BitVec 32 := Scalar.muli v10 c64_i32_203
  let v254 : BitVec 32 := Scalar.addi v194 v253
  let c64_i32_278 : BitVec 32 := 64#32
  let v335 : BitVec 32 := Scalar.muli v10 c64_i32_278
  let v336 : BitVec 32 := Scalar.subi v254 v335
  let c128_i32_314 : BitVec 32 := 128#32
  let v375 : BitVec 32 := Scalar.muli v8 c128_i32_314
  let v376 : BitVec 32 := Scalar.subi v336 v375
  let c384_i32_319 : BitVec 32 := 384#32
  ![v376.toNat, 384]
def k0_dev18 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_317 : BitVec 32 := 1#32
  let v377 : BitVec 32 := Scalar.muli v16 c1_i32_317
  let v378 : BitVec 32 := Scalar.addi c0_i32_318 v377
  v378.toNat
def k0_off23 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c512_i32_40 : BitVec 32 := 512#32
  let v60 : BitVec 32 := Scalar.muli v8 c512_i32_40
  let v61 : BitVec 32 := Scalar.addi c0_i32_41 v60
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c256_i32_77 : BitVec 32 := 256#32
  let v103 : BitVec 32 := Scalar.muli v10 c256_i32_77
  let v104 : BitVec 32 := Scalar.addi v61 v103
  let c4_i32_0 : BitVec 32 := 4#32
  let v4 : BitVec 32 := Scalar.divsi v2 c4_i32_0
  let c2_i32_6 : BitVec 32 := 2#32
  let v11 : BitVec 32 := Scalar.remsi v4 c2_i32_6
  let c128_i32_127 : BitVec 32 := 128#32
  let v163 : BitVec 32 := Scalar.muli v11 c128_i32_127
  let v164 : BitVec 32 := Scalar.addi v104 v163
  let c2_i32_7 : BitVec 32 := 2#32
  let v12 : BitVec 32 := Scalar.divsi v4 c2_i32_7
  let c64_i32_177 : BitVec 32 := 64#32
  let v223 : BitVec 32 := Scalar.muli v12 c64_i32_177
  let v224 : BitVec 32 := Scalar.addi v164 v223
  let c64_i32_260 : BitVec 32 := 64#32
  let v315 : BitVec 32 := Scalar.muli v12 c64_i32_260
  let v316 : BitVec 32 := Scalar.subi v224 v315
  let c128_i32_296 : BitVec 32 := 128#32
  let v355 : BitVec 32 := Scalar.muli v11 c128_i32_296
  let v356 : BitVec 32 := Scalar.subi v316 v355
  let c256_i32_332 : BitVec 32 := 256#32
  let v395 : BitVec 32 := Scalar.muli v10 c256_i32_332
  let v396 : BitVec 32 := Scalar.subi v356 v395
  let c0_i32_337 : BitVec 32 := 0#32
  ![v396.toNat, 0]
def k0_dev19 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.xori v2 c1_i32_8
  let c1_i32_335 : BitVec 32 := 1#32
  let v397 : BitVec 32 := Scalar.muli v13 c1_i32_335
  let v398 : BitVec 32 := Scalar.addi c0_i32_336 v397
  v398.toNat
def k0_off24 (d0 : Dev nD) : Fin 2 → Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_6 : BitVec 32 := 2#32
  let v11 : BitVec 32 := Scalar.remsi v4 c2_i32_6
  let c512_i32_51 : BitVec 32 := 512#32
  let v73 : BitVec 32 := Scalar.muli v11 c512_i32_51
  let v74 : BitVec 32 := Scalar.addi c0_i32_52 v73
  let c2_i32_7 : BitVec 32 := 2#32
  let v12 : BitVec 32 := Scalar.divsi v4 c2_i32_7
  let c256_i32_102 : BitVec 32 := 256#32
  let v133 : BitVec 32 := Scalar.muli v12 c256_i32_102
  let v134 : BitVec 32 := Scalar.addi v74 v133
  let c4_i32 : BitVec 32 := 4#32
  let v3 : BitVec 32 := Scalar.remsi v2 c4_i32
  let c1_i32_1 : BitVec 32 := 1#32
  let v5 : BitVec 1 := Scalar.cmpi .eq v3 c1_i32_1
  let c2_i32 : BitVec 32 := 2#32
  let v6 : BitVec 1 := Scalar.cmpi .eq v3 c2_i32
  let v7 : BitVec 1 := Scalar.ori v5 v6
  let c1_i32_2 : BitVec 32 := 1#32
  let c0_i32 : BitVec 32 := 0#32
  let v8 : BitVec 32 := Scalar.select v7 c1_i32_2 c0_i32
  let c128_i32_153 : BitVec 32 := 128#32
  let v193 : BitVec 32 := Scalar.muli v8 c128_i32_153
  let v194 : BitVec 32 := Scalar.addi v134 v193
  let c2_i32_3 : BitVec 32 := 2#32
  let v9 : BitVec 1 := Scalar.cmpi .sge v3 c2_i32_3
  let c1_i32_4 : BitVec 32 := 1#32
  let c0_i32_5 : BitVec 32 := 0#32
  let v10 : BitVec 32 := Scalar.select v9 c1_i32_4 c0_i32_5
  let c64_i32_203 : BitVec 32 := 64#32
  let v253 : BitVec 32 := Scalar.muli v10 c64_i32_203
  let v254 : BitVec 32 := Scalar.addi v194 v253
  let c64_i32_278 : BitVec 32 := 64#32
  let v335 : BitVec 32 := Scalar.muli v10 c64_i32_278
  let v336 : BitVec 32 := Scalar.subi v254 v335
  let c128_i32_314 : BitVec 32 := 128#32
  let v375 : BitVec 32 := Scalar.muli v8 c128_i32_314
  let v376 : BitVec 32 := Scalar.subi v336 v375
  let c256_i32_350 : BitVec 32 := 256#32
  let v415 : BitVec 32 := Scalar.muli v12 c256_i32_350
  let v416 : BitVec 32 := Scalar.subi v376 v415
  let c384_i32_355 : BitVec 32 := 384#32
  ![v416.toNat, 384]
def k0_dev20 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v15 : BitVec 32 := Scalar.xori v2 c4_i32_9
  let c1_i32_353 : BitVec 32 := 1#32
  let v417 : BitVec 32 := Scalar.muli v15 c1_i32_353
  let v418 : BitVec 32 := Scalar.addi c0_i32_354 v417
  v418.toNat
abbrev stage0_0 : Fin 1 → Memref sig .tc .vmem S2x8x512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 73
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x8192, .bf16⟩
  | .hbm, ⟨2, _⟩ => ⟨S2x512x128x64, .bf16⟩
  | .hbm, ⟨3, _⟩ => ⟨S2x512x128x64, .bf16⟩
  | .hbm, ⟨4, _⟩ => ⟨S8192x768, .bf16⟩
  | .hbm, ⟨5, _⟩ => ⟨S2x512x8192, .f32⟩
  | .hbm, ⟨6, _⟩ => ⟨S2x512x8192, .bf16⟩
  | .hbm, ⟨7, _⟩ => ⟨S2x512x128x64, .bf16⟩
  | .hbm, ⟨8, _⟩ => ⟨S512, .i32⟩
  | .hbm, ⟨9, _⟩ => ⟨S512x1, .i32⟩
  | .hbm, ⟨10, _⟩ => ⟨S512, .i32⟩
  | .hbm, ⟨11, _⟩ => ⟨S1x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S_, .i32⟩
  | .hbm, ⟨20, _⟩ => ⟨S1x512, .i32⟩
  | .hbm, ⟨21, _⟩ => ⟨S1x512, .i1⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S512x512, .i1⟩
  | .hbm, ⟨29, _⟩ => ⟨S2x128x512x512, .f32⟩
  | .hbm, ⟨30, _⟩ => ⟨S2x128x512x512, .bf16⟩
  | .hbm, ⟨31, _⟩ => ⟨S2x128x512x512, .f32⟩
  | .hbm, ⟨32, _⟩ => ⟨S_, .f32⟩
  | .hbm, ⟨33, _⟩ => ⟨S2x128x512x512, .f32⟩
  | .hbm, ⟨34, _⟩ => ⟨S2x128x512x512, .f32⟩
  | .hbm, ⟨35, _⟩ => ⟨S1x1x512x512, .i1⟩
  | .hbm, ⟨36, _⟩ => ⟨S_, .f32⟩
  | .hbm, ⟨37, _⟩ => ⟨S_, .f32⟩
  | .hbm, ⟨38, _⟩ => ⟨S2x128x512x512, .i1⟩
  | .hbm, ⟨39, _⟩ => ⟨S2x128x512x512, .f32⟩
  | .hbm, ⟨40, _⟩ => ⟨S2x128x512x512, .f32⟩
  | .hbm, ⟨41, _⟩ => ⟨S_, .f32⟩
  | .hbm, ⟨42, _⟩ => ⟨S2x128x512, .f32⟩
  | .hbm, ⟨43, _⟩ => ⟨S2x128x512x1, .f32⟩
  | .hbm, ⟨44, _⟩ => ⟨S2x128x512x512, .f32⟩
  | .hbm, ⟨45, _⟩ => ⟨S2x128x512x512, .f32⟩
  | .hbm, ⟨46, _⟩ => ⟨S2x128x512x512, .f32⟩
  | .hbm, ⟨47, _⟩ => ⟨S_, .i1⟩
  | .hbm, ⟨48, _⟩ => ⟨S512, .i1⟩
  | .hbm, ⟨49, _⟩ => ⟨S1x1x512x1, .i1⟩
  | .hbm, ⟨50, _⟩ => ⟨S_, .f32⟩
  | .hbm, ⟨51, _⟩ => ⟨S2x128x512, .f32⟩
  | .hbm, ⟨52, _⟩ => ⟨S2x128x512x1, .f32⟩
  | .hbm, ⟨53, _⟩ => ⟨S_, .f32⟩
  | .hbm, ⟨54, _⟩ => ⟨S_, .f32⟩
  | .hbm, ⟨55, _⟩ => ⟨S2x128x512x1, .i1⟩
  | .hbm, ⟨56, _⟩ => ⟨S2x128x512x1, .f32⟩
  | .hbm, ⟨57, _⟩ => ⟨S2x128x512x1, .f32⟩
  | .hbm, ⟨58, _⟩ => ⟨S2x128x512x512, .f32⟩
  | .hbm, ⟨59, _⟩ => ⟨S2x128x512x512, .f32⟩
  | .hbm, ⟨60, _⟩ => ⟨S1x1x512x1, .i1⟩
  | .hbm, ⟨61, _⟩ => ⟨S_, .f32⟩
  | .hbm, ⟨62, _⟩ => ⟨S_, .f32⟩
  | .hbm, ⟨63, _⟩ => ⟨S2x128x512x512, .i1⟩
  | .hbm, ⟨64, _⟩ => ⟨S2x128x512x512, .f32⟩
  | .hbm, ⟨65, _⟩ => ⟨S2x128x512x512, .f32⟩
  | .hbm, ⟨66, _⟩ => ⟨S2x512x128x64, .f32⟩
  | .hbm, ⟨67, _⟩ => ⟨S2x128x64x512, .f32⟩
  | .hbm, ⟨68, _⟩ => ⟨S2x512x128x64, .f32⟩
  | .hbm, ⟨69, _⟩ => ⟨S2x512x8192, .f32⟩
  | .hbm, ⟨70, _⟩ => ⟨S8192x768, .f32⟩
  | .hbm, ⟨71, _⟩ => ⟨S2x512x768, .f32⟩
  | .hbm, ⟨72, _⟩ => ⟨S2x512x768, .bf16⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Mesh.lean ====
/-
  The hypercube the sixteen devices form, and the rectangles of the output that they exchange.

  Device `c` sits at a corner of a four-dimensional cube: its corner's four bits are `bit 0 … bit 3`, and
  `flip i c` is its neighbour across dimension `i`. Two streams reduce the two halves of the columns: stream 0
  the columns 0–383, crossing the dimensions in the order 0, 1, 2, 3, stream 1 the columns 384–767, crossing
  them in the order 2, 3, 0, 1. At level `k` a stream halves the block of rows it works on: `blk s k c` is the
  block device `c` keeps at level `k`; the half it sends is its partner's block `blk s k (peer s k c)`.
-/
module

public import proofs.«01_k».proof.Proof.Gen.KernelIdeal

@[expose] public section

set_option maxRecDepth 100000

noncomputable section

namespace Cert.KernelIdeal.Net

open Idealize.ShloMosaic Cert.KernelIdeal Cert.KernelIdeal.Gen

/-- Bit `i` of the corner device `c` sits at. -/
def bit (i : Fin 4) (c : Dev nD) : ℕ :=
  (![if c.val % 4 = 1 ∨ c.val % 4 = 2 then 1 else 0, if 2 ≤ c.val % 4 then 1 else 0, (c.val / 4) % 2, c.val / 8] : Fin 4 → ℕ) i

/-- The neighbour of device `c` across dimension `i`. -/
def flip (i : Fin 4) (c : Dev nD) : Dev nD :=
  ⟨((![1, 3, 4, 8] : Fin 4 → ℕ) i ^^^ c.val) % 16, Nat.mod_lt _ (by decide)⟩

/-- The dimension stream `s` crosses at level `k`. -/
def ord (s : Fin 2) (k : Fin 4) : Fin 4 := k + (![0, 2] : Fin 2 → Fin 4) s

/-- The level at which stream `s` crosses dimension `i`. -/
def lvl (s : Fin 2) (i : Fin 4) : Fin 4 := i + (![0, 2] : Fin 2 → Fin 4) s

/-- Device `c`'s partner in stream `s` at level `k`. -/
def peer (s : Fin 2) (k : Fin 4) (c : Dev nD) : Dev nD := flip (ord s k) c

/-- The rows of a block at level `k`. -/
def ht (k : Fin 4) : ℕ := (![512, 256, 128, 64] : Fin 4 → ℕ) k

/-- The first row of the landing area of level `k`. -/
def land (k : Fin 4) : ℕ := (![0, 512, 768, 896] : Fin 4 → ℕ) k

/-- The first row of the block that stream `s` keeps at level `k` on device `c`. -/
def row (s : Fin 2) (k : Fin 4) (c : Dev nD) : ℕ :=
  (if (0 : Fin 4) ≤ k then bit (ord s 0) c * 512 else 0) + (if (1 : Fin 4) ≤ k then bit (ord s 1) c * 256 else 0)
    + (if (2 : Fin 4) ≤ k then bit (ord s 2) c * 128 else 0) + (if (3 : Fin 4) ≤ k then bit (ord s 3) c * 64 else 0)

theorem flip_flip : ∀ i c, flip i (flip i c) = c := by decide +kernel
theorem peer_peer (s : Fin 2) (k : Fin 4) (c : Dev nD) : peer s k (peer s k c) = c := flip_flip _ _
theorem ord_lvl : ∀ s i, ord s (lvl s i) = i := by decide
theorem lvl_ord : ∀ s k, lvl s (ord s k) = k := by decide
theorem peer_lvl (s : Fin 2) (i : Fin 4) (c : Dev nD) : peer s (lvl s i) c = flip i c := by rw [peer, ord_lvl]

theorem row_le : ∀ s k c, row s k c + ht k ≤ 1024 := by decide +kernel
theorem land_le : ∀ k, land k + ht k ≤ 1024 := by decide
theorem ht_pos : ∀ k, 0 < ht k := by decide

/-- The two halves of a block are the next level's blocks of the device and of its partner there. -/
theorem row_halves : ∀ (s : Fin 2) (k k' : Fin 4) (c : Dev nD), k'.val = k.val + 1 →
    ht k = ht k' + ht k' ∧ ((row s k' c = row s k c ∧ row s k' (peer s k' c) = row s k c + ht k')
      ∨ (row s k' (peer s k' c) = row s k c ∧ row s k' c = row s k c + ht k')) := by decide +kernel

/-- At level 0 the two halves are the upper and the lower 512 rows. -/
theorem row_halves_zero : ∀ (s : Fin 2) (c : Dev nD),
    (row s 0 c = 0 ∧ row s 0 (peer s 0 c) = 512) ∨ (row s 0 (peer s 0 c) = 0 ∧ row s 0 c = 512) := by decide +kernel

theorem row_zero_bit : ∀ (c : Dev nD), row 0 0 c = 512 * bit 0 c ∧ row 0 0 (peer 0 0 c) = 512 - 512 * bit 0 c := by decide +kernel

/-- Crossing a later dimension does not move an earlier block. -/
theorem row_peer : ∀ (s : Fin 2) (k k' : Fin 4) (c : Dev nD), k'.val = k.val + 1 → row s k (peer s k' c) = row s k c := by decide +kernel

theorem bit_cases : ∀ i c, bit i c = 0 ∨ bit i c = 1 := by decide +kernel

/-- The device that ends with the sixteenth `q` of the rows in stream `s`. -/
def owner (s : Fin 2) (q : ℕ) : Dev nD := ((List.finRange 16).find? fun c => row s 3 c = 64 * q).getD 0

theorem owner_row : ∀ (s : Fin 2) (c : Dev nD), owner s (row s 3 c / 64) = c := by decide +kernel
theorem row_dvd : ∀ (s : Fin 2) (c : Dev nD), row s 3 c = 64 * (row s 3 c / 64) := by decide +kernel

/-! ## Rectangles -/

/-- The indices of the output, of the landing area and of the accumulator. -/
abbrev Ix := S1024x768.Idx

/-- Rows `r … r + n` of stream `s`'s columns. -/
def box (s : Fin 2) (r n : ℕ) : Finset Ix :=
  Finset.univ.filter fun i => r ≤ (i 0).val ∧ (i 0).val < r + n ∧ 384 * s.val ≤ (i 1).val ∧ (i 1).val < 384 * s.val + 384

theorem mem_box {s : Fin 2} {r n : ℕ} {i : Ix} :
    i ∈ box s r n ↔ r ≤ (i 0).val ∧ (i 0).val < r + n ∧ 384 * s.val ≤ (i 1).val ∧ (i 1).val < 384 * s.val + 384 := by
  simp [box]

/-- The block stream `s` keeps at level `k` on device `c`. -/
def blk (s : Fin 2) (k : Fin 4) (c : Dev nD) : Finset Ix := box s (row s k c) (ht k)

/-- Stream `s`'s landing area of level `k`. -/
def slot (s : Fin 2) (k : Fin 4) : Finset Ix := box s (land k) (ht k)

/-- The shape of a block at level `k`. -/
abbrev Sh (k : Fin 4) : Shape := ⟨2, ![ht k, 384]⟩

/-- A rectangle of the block's size is a `box`. -/
theorem set_unit {s : Fin 2} {k : Fin 4} {r : ℕ} {off : Fin 2 → ℕ} (h : off = ![r, 384 * s.val])
    {inb : ∀ a, off a + (Sh k).size a ≤ S1024x768.size a} :
    (Rect.unit (s := S1024x768) off (Sh k).size inb).set = box s r (ht k) := by
  subst h
  ext i
  rw [Rect.mem_set_unit, mem_box, Fin.forall_fin_two]
  simp [and_assoc]

theorem box_split {s : Fin 2} {r n m : ℕ} : box s r (n + m) = box s r n ∪ box s (r + n) m := by
  ext i; simp only [Finset.mem_union, mem_box]; omega

theorem box_disjoint {s : Fin 2} {r n r' m : ℕ} (h : r + n ≤ r' ∨ r' + m ≤ r) : Disjoint (box s r n) (box s r' m) := by
  rw [Finset.disjoint_left]; intro i; simp only [mem_box]; omega

theorem box_disjoint_str {s s' : Fin 2} (hs : s ≠ s') {r n r' m : ℕ} : Disjoint (box s r n) (box s' r' m) := by
  rw [Finset.disjoint_left]; intro i; simp only [mem_box]
  have : s.val ≠ s'.val := fun h => hs (Fin.ext h)
  have := s.isLt; have := s'.isLt
  omega

/-- A block is the two blocks of the next level. -/
theorem blk_halves {s : Fin 2} {k k' : Fin 4} (h : k'.val = k.val + 1) (c : Dev nD) :
    blk s k c = blk s k' c ∪ blk s k' (peer s k' c) ∧ Disjoint (blk s k' c) (blk s k' (peer s k' c)) := by
  obtain ⟨hh, ⟨h1, h2⟩ | ⟨h1, h2⟩⟩ := row_halves s k k' c h
  · exact ⟨by rw [blk, blk, blk, h1, h2, hh, box_split], box_disjoint (.inl (by rw [h1, h2]))⟩
  · exact ⟨by rw [blk, blk, blk, h1, h2, hh, box_split, Finset.union_comm], box_disjoint (.inr (by rw [h1, h2]))⟩

/-- A stream's columns are the two blocks of level 0. -/
theorem col_halves (s : Fin 2) (c : Dev nD) :
    box s 0 1024 = blk s 0 c ∪ blk s 0 (peer s 0 c) ∧ Disjoint (blk s 0 c) (blk s 0 (peer s 0 c)) := by
  have e : box s 0 1024 = box s 0 512 ∪ box s 512 512 := box_split (r := 0) (n := 512) (m := 512)
  obtain ⟨h1, h2⟩ | ⟨h1, h2⟩ := row_halves_zero s c
  · exact ⟨by rw [blk, blk, h1, h2, e]; rfl, box_disjoint (.inl (by rw [h1, h2]; rfl))⟩
  · exact ⟨by rw [blk, blk, h1, h2, e, Finset.union_comm]; rfl, box_disjoint (.inr (by rw [h1, h2]; rfl))⟩

/-- The output is the two streams' columns. -/
theorem univ_cols : (Finset.univ : Finset Ix) = box 0 0 1024 ∪ box 1 0 1024 := by
  ext i
  have h0 := (i 0).isLt; have h1 := (i 1).isLt
  simp only [Finset.mem_univ, Finset.mem_union, mem_box, true_iff]
  change (i 0).val < 1024 at h0; change (i 1).val < 768 at h1
  simp only [Fin.val_zero, Fin.val_one]
  omega

end Cert.KernelIdeal.Net

end
-- ==== Proof.Heads.lean ====
/-
  One batch's share of the projection on one device.

  `headOut` is what one attention head adds to the accumulator; `batchOut b` folds the device's eight heads for
  batch `b`; `part` lays the two batches' results out as the output's 1024 rows. `batch_zero` and `batch_one` run
  the kernel's text of a batch: from the five inputs, the accumulator and the batch's 512 rows of the output, the
  rows end at `part`.
-/
module

public import proofs.«01_k».proof.Proof.Mesh
public import proofs.«01_k».proof.Proof.Gen.KernelIdeal.Skeleton
public import proofs.«01_k».proof.Proof.Gen.KernelIdeal.Regions
public import Idealize.ShloMosaic.Lib.Tactic
public import Idealize.ShloMosaic.Lib.Pipeline.FrameBody

@[expose] public section

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds and the exchange's. -/
abbrev UU : Type := URounds (GSem nD τ sig) Unit × URounds (GSem nD τ sig) (Fin 4)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 4)) (MT nD τ sig Unit (Elt F) ℕ UU ℕ) := embR
abbrev 𝒱₀ : Variants := Variants.none

/-! ## The buffers the body works on -/

abbrev qM : Memref sig .tc .vmem S2x8x512x64 .bf16 := Memref.whole cc0_stg0_0
abbrev kM : Memref sig .tc .vmem S2x8x512x64 .bf16 := Memref.whole cc0_stg1_0
abbrev vM : Memref sig .tc .vmem S2x8x512x64 .bf16 := Memref.whole cc0_stg2_0
abbrev wM : Memref sig .tc .vmem S512x768 .bf16 := Memref.whole cc0_stg3_0
abbrev oM : Memref sig .tc .vmem S1024x768 .bf16 := Memref.whole cc0_stg4_0
abbrev aM : Memref sig .tc .vmem S1024x768 .f32 := Memref.whole cc0_scratch0
abbrev rM : Memref sig .tc .vmem S1024x768 .bf16 := Memref.whole cc0_scratch1

/-- Contents of the head arrays, of the projection block, and of the output and the landing area. -/
abbrev Hd (F : FTy → Type) : Type := (⟨S2x8x512x64, .bf16⟩ : BufTy).Contents (Elt F)
abbrev Wb (F : FTy → Type) : Type := (⟨S512x768, .bf16⟩ : BufTy).Contents (Elt F)
abbrev Arr (F : FTy → Type) : Type := (⟨S1024x768, .bf16⟩ : BufTy).Contents (Elt F)
abbrev Acc (F : FTy → Type) : Type := (⟨S1024x768, .f32⟩ : BufTy).Contents (Elt F)

/-- The output buffer of device `c`, and its landing area, over a set of indices. -/
abbrev oAt (c : Dev nD) (S : Finset Ix) (f : Arr F) : sProp 𝕄 := oM.view.loc (c : Thread nD τ) ↦[S]{fullShare} f
abbrev rAt (c : Dev nD) (S : Finset Ix) (f : Arr F) : sProp 𝕄 := rM.view.loc (c : Thread nD τ) ↦[S]{fullShare} f

/-- The inputs' staging buffers, whole. -/
def inputs (c : Dev nD) (q k v : Hd F) (w : Wb F) : sProp 𝕄 :=
  iprop((qM.view.loc (c : Thread nD τ) ↦{fullShare} q) ∗ (kM.view.loc (c : Thread nD τ) ↦{fullShare} k)
    ∗ (vM.view.loc (c : Thread nD τ) ↦{fullShare} v) ∗ (wM.view.loc (c : Thread nD τ) ↦{fullShare} w))

/-- The accumulator at some contents. -/
def accAny (c : Dev nD) : sProp 𝕄 := iprop(∃ a : Acc F, aM.view.loc (c : Thread nD τ) ↦{fullShare} a)

/-! ## What a batch leaves -/

theorem inbHead : ∀ (b : Fin 2) (h : Fin 8) (a : Fin 4),
    (![b.val, h.val, 0, 0] : Fin 4 → ℕ) a + S1x1x512x64.size a ≤ S2x8x512x64.size a := by decide
theorem inbProj : ∀ (h : Fin 8) (a : Fin 2), (![64 * h.val, 0] : Fin 2 → ℕ) a + S64x768.size a ≤ S512x768.size a := by decide

/-- Head `h` of batch `b` of a head array. -/
def slab (b : Fin 2) (h : Fin 8) (f : Hd F) : Vec F S1x1x512x64 .bf16 :=
  fun x => f ((Rect.unit (s := S2x8x512x64) ![b.val, h.val, 0, 0] S1x1x512x64.size (inbHead b h)).emb x)

/-- The projection's rows of head `h`. -/
def proj (h : Fin 8) (w : Wb F) : Vec F S64x768 .bf16 :=
  fun x => w ((Rect.unit (s := S512x768) ![64 * h.val, 0] S64x768.size (inbProj h)).emb x)

/-- What head `h` of batch `b` adds to the accumulator. -/
def headOut (b : Fin 2) (h : Fin 8) (q k v : Hd F) (w : Wb F) : FVec F S512x768 .f32 :=
  k0_pay13 k0_pay69 (slab b h q) (slab b h k) (slab b h v) (proj h w)

/-- Batch `b`'s rows: the first head starts the accumulator, the others add to it, the sum is rounded. -/
def batchOut (b : Fin 2) (q k v : Hd F) (w : Wb F) : FVec F S512x768 .bf16 :=
  k0_pay17 (k0_pay14 (headOut b 7 q k v w) (k0_pay14 (headOut b 6 q k v w) (k0_pay14 (headOut b 5 q k v w)
    (k0_pay14 (headOut b 4 q k v w) (k0_pay14 (headOut b 3 q k v w) (k0_pay14 (headOut b 2 q k v w)
      (k0_pay14 (headOut b 1 q k v w) (k0_pay1 k0_pay69 (slab b 0 q) (slab b 0 k) (slab b 0 v) (proj 0 w)))))))))

/-- The index of row `i 0` within its batch. -/
def inBatch (i : Ix) : S512x768.Idx
  | ⟨0, _⟩ => ⟨(i 0).val % 512, Nat.mod_lt _ (by decide)⟩
  | ⟨1, _⟩ => i 1

/-- The device's partial output, as the 1024 rows the exchange works on. -/
def part (q k v : Hd F) (w : Wb F) : Arr F :=
  fun i => batchOut ⟨(i 0).val / 512, Nat.div_lt_of_lt_mul (i 0).isLt⟩ q k v w (inBatch i)

/-- Batch `b`'s rows of the output. -/
def rows (b : Fin 2) : Finset Ix := box 0 (512 * b.val) 512 ∪ box 1 (512 * b.val) 512

theorem mem_rows {b : Fin 2} {i : Ix} : i ∈ rows b ↔ 512 * b.val ≤ (i 0).val ∧ (i 0).val < 512 * b.val + 512 := by
  have h1 := (i 1).isLt
  change (i 1).val < 768 at h1
  simp only [rows, Finset.mem_union, mem_box, Fin.val_zero, Fin.val_one]
  omega

theorem inbRows : ∀ (b : Fin 2) (a : Fin 2), (![512 * b.val, 0] : Fin 2 → ℕ) a + S512x768.size a ≤ S1024x768.size a := by decide

theorem set_rows (b : Fin 2) {inb} : (Rect.unit (s := S1024x768) ![512 * b.val, 0] S512x768.size inb).set = rows b := by
  ext i
  have h1 := (i 1).isLt
  change (i 1).val < 768 at h1
  rw [Rect.mem_set_unit, mem_rows, Fin.forall_fin_two]
  simp [h1]

/-- The elements a rectangle of a whole buffer reaches are the rectangle's. -/
theorem setOn_oM (S : Finset Ix) : oM.view.setOn S = S := Finset.map_refl
theorem setOn_access_oM (r : Rect S1024x768) : (oM.access r).setOn Finset.univ = r.set := View.set_slice_whole cc0_stg4_0 r

/-- Every index of a rectangle is one under it. -/
theorem exists_emb {S : Shape} {r : Rect S} {i : S.Idx} (h : i ∈ r.set) : ∃ x, r.emb x = i := by
  rw [← Rect.map_emb_univ] at h
  obtain ⟨x, -, e⟩ := Finset.mem_map.mp h
  exact ⟨x, e⟩

/-- The output buffer's contents after a store of `w` through the rectangle `r`. -/
def wr (r : Rect S1024x768) (f : Arr F) (w : r.shape.Idx → Elt F .bf16) : Arr F := (oM.access r).write (Elt F) f w Finset.univ

theorem wr_emb (r : Rect S1024x768) (f : Arr F) (w : r.shape.Idx → Elt F .bf16) (x : r.shape.Idx) : wr r f w (r.emb x) = w x :=
  View.write_emb_of_mem (v := oM.access r) f w (Finset.mem_univ x)

/-- A unit-stride rectangle's index `x` lies at the offset plus `x`. -/
theorem emb_val {S : Shape} (off size : Fin S.rank → ℕ) {inb} (x : (Rect.unit (s := S) off size inb).shape.Idx) (a : Fin S.rank) :
    ((Rect.unit (s := S) off size inb).emb x a).val = off a + (x a).val := by
  show off a + 1 * (x a).val = _
  rw [Nat.one_mul]

/-- Index `i` is index `x` of batch `b`: `part` there is the batch's value at `x`. -/
theorem part_at (b : Fin 2) (q k v : Hd F) (w : Wb F) (i : Ix) (x : S512x768.Idx)
    (e0 : (i 0).val = 512 * b.val + (x 0).val) (e1 : (i 1).val = (x 1).val) : part q k v w i = batchOut b q k v w x := by
  have h0 : (x 0).val < 512 := (x 0).isLt
  have hB : (⟨(i 0).val / 512, Nat.div_lt_of_lt_mul (i 0).isLt⟩ : Fin 2) = b := Fin.ext (by show (i 0).val / 512 = _; omega)
  have hx : inBatch i = x := by
    funext a
    match a with
    | ⟨0, _⟩ => exact Fin.ext (by show (i 0).val % 512 = (x 0).val; omega)
    | ⟨1, _⟩ => exact Fin.ext e1
  unfold part
  rw [hB, hx]

/-- Writing a batch's result through its rows gives `part` there. -/
theorem write_rows (b : Fin 2) (q k v : Hd F) (w : Wb F) (f : Arr F) {inb} : ∀ i ∈ rows b,
    wr (Rect.unit (s := S1024x768) ![512 * b.val, 0] S512x768.size inb) f (batchOut b q k v w) i = part q k v w i := by
  intro i hi
  rw [← set_rows b (inb := inb)] at hi
  obtain ⟨x, rfl⟩ := exists_emb hi
  rw [wr_emb]
  refine (part_at b q k v w _ x ?_ ?_).symm
  · exact emb_val _ _ x 0
  · exact (emb_val _ _ x 1).trans (Nat.zero_add _)

/-- The kernel's text of batch 1. -/
abbrev batchOneProg : Prog (TpuEff nD τ sig (Elt F) Λ₀ .tc) PUnit := do
      let ⟨v471, v473⟩ : Σ' (v471 : FVec F S512x64 .bf16), FVec F S512x64 .bf16 ← k0_part1 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part2 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part3 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part4 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part5 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part6 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part7 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      pure ⟨⟩

set_option maxHeartbeats 4000000 in
theorem batchOne (c : Dev nD) (q k v : Hd F) (w : Wb F) (f : Arr F) (Q : PUnit → sProp 𝕄) :
    iprop(inputs c q k v w ∗ accAny c ∗ oAt c (rows 1) f
        ∗ ((inputs c q k v w ∗ accAny c ∗ oAt c (rows 1) (part q k v w)) -∗ Q ⟨⟩))
      ⊢ wp frame (wpE (defs₀ (F := F)) 𝒱₀ c none) Set.univ batchOneProg Q := by
  unfold inputs accAny
  iintro ⟨⟨Hq, Hk, Hv, Hw⟩, ⟨%a, Ha⟩, Ho, HK⟩
  sl_exec_parts
  have h0 : batchOne.sl.v492 q k v w = k0_pay1 k0_pay69 (slab 1 0 q) (slab 1 0 k) (slab 1 0 v) (proj 0 w) :=
    View.readCov_cons_toLoadRect _ _ _ _
  have h1 : batchOne.sl.v519 q k v w = k0_pay14 (headOut 1 1 q k v w) (batchOne.sl.v492 q k v w) :=
    View.readCov_cons_toLoadRect _ _ _ _
  have h2 : batchOne.sl.v546 q k v w = k0_pay14 (headOut 1 2 q k v w) (batchOne.sl.v519 q k v w) :=
    View.readCov_cons_toLoadRect _ _ _ _
  have h3 : batchOne.sl.v573 q k v w = k0_pay14 (headOut 1 3 q k v w) (batchOne.sl.v546 q k v w) :=
    View.readCov_cons_toLoadRect _ _ _ _
  have h4 : batchOne.sl.v600 q k v w = k0_pay14 (headOut 1 4 q k v w) (batchOne.sl.v573 q k v w) :=
    View.readCov_cons_toLoadRect _ _ _ _
  have h5 : batchOne.sl.v627 q k v w = k0_pay14 (headOut 1 5 q k v w) (batchOne.sl.v600 q k v w) :=
    View.readCov_cons_toLoadRect _ _ _ _
  have h6 : batchOne.sl.v654 q k v w = k0_pay14 (headOut 1 6 q k v w) (batchOne.sl.v627 q k v w) :=
    View.readCov_cons_toLoadRect _ _ _ _
  have h7 : batchOne.sl.v659 q k v w = k0_pay14 (headOut 1 7 q k v w) (batchOne.sl.v654 q k v w) :=
    View.readCov_cons_toLoadRect _ _ _ _
  have e : k0_pay17 (batchOne.sl.v659 q k v w) = batchOut 1 q k v w := by
    unfold batchOut
    rw [h7, h6, h5, h4, h3, h2, h1, h0]
  rw [e]
  iapply (wp_load 𝒱₀ (c : Thread nD τ) none Set.univ (m := oM) (S := rows 1)
    (by rw [setOn_oM]; exact (set_rows 1).le)) $$ Ho
  iintro Ho
  iapply (wp_store 𝒱₀ (c : Thread nD τ) none Set.univ (m := oM)
    (r := Rect.unit (s := S1024x768) ![512 * (1 : Fin 2).val, 0] S512x768.size (inbRows 1)) (S := (rows 1 : Finset Ix))
    ((setOn_access_oM _).le.trans (set_rows 1).le)) $$ Ho
  iintro Ho
  ihave Ho := (Entails.of_eq (pointsTo_congr (write_rows 1 q k v w f))) $$ Ho
  iapply (le_wp_ret _ _)
  iapply (le_wp_ret _ _)
  iapply HK
  isplitl [Hq Hk Hv Hw]
  · isplitl [Hq]; · iexact Hq
    isplitl [Hk]; · iexact Hk
    isplitl [Hv]; · iexact Hv
    iexact Hw
  isplitl [Ha]; · iexists _; iexact Ha
  iexact Ho

/-- The kernel's text of batch 0. -/
abbrev batchZeroProg : Prog (TpuEff nD τ sig (Elt F) Λ₀ .tc) PUnit := do
      let ⟨v471, v473⟩ : Σ' (v471 : FVec F S512x64 .bf16), FVec F S512x64 .bf16 ← k0_part8 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part9 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part10 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part11 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part12 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part13 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part14 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      pure ⟨⟩

set_option maxHeartbeats 4000000 in
theorem batchZero (c : Dev nD) (q k v : Hd F) (w : Wb F) (f : Arr F) (Q : PUnit → sProp 𝕄) :
    iprop(inputs c q k v w ∗ accAny c ∗ oAt c (rows 0) f
        ∗ ((inputs c q k v w ∗ accAny c ∗ oAt c (rows 0) (part q k v w)) -∗ Q ⟨⟩))
      ⊢ wp frame (wpE (defs₀ (F := F)) 𝒱₀ c none) Set.univ batchZeroProg Q := by
  unfold inputs accAny
  iintro ⟨⟨Hq, Hk, Hv, Hw⟩, ⟨%a, Ha⟩, Ho, HK⟩
  sl_exec_parts
  have h0 : batchZero.sl.v492 q k v w = k0_pay1 k0_pay69 (slab 0 0 q) (slab 0 0 k) (slab 0 0 v) (proj 0 w) :=
    View.readCov_cons_toLoadRect _ _ _ _
  have h1 : batchZero.sl.v519 q k v w = k0_pay14 (headOut 0 1 q k v w) (batchZero.sl.v492 q k v w) :=
    View.readCov_cons_toLoadRect _ _ _ _
  have h2 : batchZero.sl.v546 q k v w = k0_pay14 (headOut 0 2 q k v w) (batchZero.sl.v519 q k v w) :=
    View.readCov_cons_toLoadRect _ _ _ _
  have h3 : batchZero.sl.v573 q k v w = k0_pay14 (headOut 0 3 q k v w) (batchZero.sl.v546 q k v w) :=
    View.readCov_cons_toLoadRect _ _ _ _
  have h4 : batchZero.sl.v600 q k v w = k0_pay14 (headOut 0 4 q k v w) (batchZero.sl.v573 q k v w) :=
    View.readCov_cons_toLoadRect _ _ _ _
  have h5 : batchZero.sl.v627 q k v w = k0_pay14 (headOut 0 5 q k v w) (batchZero.sl.v600 q k v w) :=
    View.readCov_cons_toLoadRect _ _ _ _
  have h6 : batchZero.sl.v654 q k v w = k0_pay14 (headOut 0 6 q k v w) (batchZero.sl.v627 q k v w) :=
    View.readCov_cons_toLoadRect _ _ _ _
  have h7 : batchZero.sl.v659 q k v w = k0_pay14 (headOut 0 7 q k v w) (batchZero.sl.v654 q k v w) :=
    View.readCov_cons_toLoadRect _ _ _ _
  have e : k0_pay34 (batchZero.sl.v659 q k v w) = batchOut 0 q k v w := by
    unfold batchOut
    rw [h7, h6, h5, h4, h3, h2, h1, h0]
    rfl
  rw [e]
  iapply (wp_load 𝒱₀ (c : Thread nD τ) none Set.univ (m := oM) (S := rows 0)
    (by rw [setOn_oM]; exact (set_rows 0).le)) $$ Ho
  iintro Ho
  iapply (wp_store 𝒱₀ (c : Thread nD τ) none Set.univ (m := oM)
    (r := Rect.unit (s := S1024x768) ![512 * (0 : Fin 2).val, 0] S512x768.size (inbRows 0)) (S := (rows 0 : Finset Ix))
    ((setOn_access_oM _).le.trans (set_rows 0).le)) $$ Ho
  iintro Ho
  ihave Ho := (Entails.of_eq (pointsTo_congr (write_rows 0 q k v w f))) $$ Ho
  iapply (le_wp_ret _ _)
  iapply (le_wp_ret _ _)
  iapply HK
  isplitl [Hq Hk Hv Hw]
  · isplitl [Hq]; · iexact Hq
    isplitl [Hk]; · iexact Hk
    isplitl [Hv]; · iexact Hv
    iexact Hw
  isplitl [Ha]; · iexists _; iexact Ha
  iexact Ho

end Cert.KernelIdeal.Net

end
-- ==== Proof.Proto.lean ====
/-
  The exchange's protocol: its cells, what each payment carries, and what each device owes.

  A hop is one copy to a partner: phase 0 (reduce) or 1 (gather), a stream and a level. Every device has, for each
  hop, a send cell and a receive cell, of one round with one duty; and a barrier cell of one round with four
  duties, one per partner. A partner pays the barrier with its own landing areas for this device, and the news
  that its receive cells are open. A reduce copy pays the receiver with the landing area at the sender's block and
  with the sender's own copy of that block, which the receiver rewrites when it gathers; a gather copy returns
  the source to the sender and the rewritten block to the receiver.
-/
module

public import proofs.«01_k».proof.Proof.Heads

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- The sum of two partial outputs, element by element. -/
def plus (f g : Arr F) : Arr F := fun i => FloatOps.addf (f i) (g i)

/-- Device `c`'s partial sum in stream `s` after `n` levels: it adds its partner's. -/
def vv (P : Dev nD → Arr F) (s : Fin 2) : ℕ → Dev nD → Arr F
  | 0, c => P c
  | n + 1, c => plus (vv P s n c) (vv P s n (peer s ⟨n % 4, Nat.mod_lt _ (by decide)⟩ c))

theorem vv_succ (P : Dev nD → Arr F) (s : Fin 2) (k : Fin 4) (c : Dev nD) :
    vv P s (k.val + 1) c = plus (vv P s k.val c) (vv P s k.val (peer s k c)) := by
  rw [vv, show (⟨k.val % 4, Nat.mod_lt _ (by decide)⟩ : Fin 4) = k from Fin.ext (Nat.mod_eq_of_lt k.isLt)]

/-- The reduced output of stream `s`: each sixteenth of the rows at its owner's sum. -/
def fin (P : Dev nD → Arr F) (s : Fin 2) : Arr F := fun i => vv P s 4 (owner s ((i 0).val / 64)) i

/-- The index of the block that lands at `i` of stream `s`'s level-`k` landing area of device `c`. -/
def shift (s : Fin 2) (k : Fin 4) (c : Dev nD) (i : Ix) : Ix
  | ⟨0, _⟩ => ⟨((i 0).val - land k + row s k c) % 1024, Nat.mod_lt _ (by decide)⟩
  | ⟨1, _⟩ => i 1

/-- What lands there: the partner's partial sum of the block. -/
def got (P : Dev nD → Arr F) (s : Fin 2) (k : Fin 4) (c : Dev nD) : Arr F :=
  fun i => vv P s k.val (peer s k c) (shift s k c i)

/-! ## Cells -/

/-- A hop: its phase, its stream and its level. -/
abbrev Hop : Type := Fin 2 × Fin 2 × Fin 4

theorem sem_lt (h : Hop) : 13 + 16 * h.1.val + 4 * h.2.1.val + h.2.2.val < 37 := by
  have := h.1.isLt; have := h.2.1.isLt; have := h.2.2.isLt; omega

/-- The hop's send and receive semaphores. -/
def sndS (h : Hop) : DmaSem sig := ⟨5 + 16 * h.1.val + 4 * h.2.1.val + h.2.2.val, lt_of_le_of_lt (by omega) (sem_lt h)⟩
def rcvS (h : Hop) : DmaSem sig := ⟨13 + 16 * h.1.val + 4 * h.2.1.val + h.2.2.val, sem_lt h⟩

/-- The hop a semaphore belongs to, and whether it is a receive semaphore. -/
def hopOf (d : DmaSem sig) : Hop :=
  (⟨(d.val - 5) / 16 % 2, Nat.mod_lt _ (by decide)⟩, ⟨(d.val - 5) / 4 % 2, Nat.mod_lt _ (by decide)⟩, ⟨(d.val - 5) % 4, Nat.mod_lt _ (by decide)⟩)
def isRcv (d : DmaSem sig) : Bool := (d.val - 5) / 8 % 2 == 1

theorem hopOf_sndS : ∀ h, hopOf (sndS h) = h := by decide
theorem hopOf_rcvS : ∀ h, hopOf (rcvS h) = h := by decide
theorem isRcv_sndS : ∀ h, isRcv (sndS h) = false := by decide
theorem isRcv_rcvS : ∀ h, isRcv (rcvS h) = true := by decide
theorem five_le_sndS : ∀ h, 5 ≤ (sndS h).val := by decide
theorem five_le_rcvS : ∀ h, 5 ≤ (rcvS h).val := by decide

abbrev barS : Sem sig := barrier0
abbrev barCell (c : Dev nD) : GSem nD τ sig := ((c : Thread nD τ), .reg barS)
abbrev sndCell (h : Hop) (c : Dev nD) : GSem nD τ sig := ((c : Thread nD τ), .dma (sndS h))
abbrev rcvCell (h : Hop) (c : Dev nD) : GSem nD τ sig := ((c : Thread nD τ), .dma (rcvS h))

/-- The device a hop goes to. -/
abbrev tgt (h : Hop) (c : Dev nD) : Dev nD := peer h.2.1 h.2.2 c

/-- The credit of a copy of a level-`k` block. -/
def amt (k : Fin 4) : ℕ := RefSig.tileCredit (Sh k) .bf16
theorem amt_pos : ∀ k, 0 < amt k := by decide +kernel

/-! ## The schedule -/

/-- What partner `p` hands over of its landing area for stream `s`, level `k`. -/
def gift (p : Dev nD) (s : Fin 2) (k : Fin 4) : sProp 𝕄 :=
  iprop((∃ f, rAt p (slot s k) f) ∗ reached ER (rcvCell (0, s, k) p) 0 ∗ reached ER (rcvCell (1, s, k) p) 0)

/-- Paid to device `c`'s barrier by its neighbour across dimension `i`. -/
def barPay (c : Dev nD) (i : Fin 4) : sProp 𝕄 := iprop(gift (flip i c) 0 (lvl 0 i) ∗ gift (flip i c) 1 (lvl 1 i))

/-- Paid to device `c`'s receive cell of hop `h`. -/
def rcvPay (P : Dev nD → Arr F) (h : Hop) (c : Dev nD) : sProp 𝕄 :=
  if h.1 = 0 then iprop(rAt c (slot h.2.1 h.2.2) (got P h.2.1 h.2.2 c) ∗ oAt (tgt h c) (blk h.2.1 h.2.2 c) (vv P h.2.1 h.2.2.val (tgt h c)))
  else oAt c (blk h.2.1 h.2.2 (tgt h c)) (fin P h.2.1)

/-- Paid to device `c`'s send cell of hop `h`. -/
def sndPay (P : Dev nD → Arr F) (h : Hop) (c : Dev nD) : sProp 𝕄 :=
  if h.1 = 0 then iprop(emp) else oAt c (blk h.2.1 h.2.2 c) (fin P h.2.1)

def payOf (P : Dev nD → Arr F) (c : Dev nD) (i : Fin 4) : SemLoc sig → sProp 𝕄
  | .reg _ => barPay c i
  | .dma d => if isRcv d = true then rcvPay P (hopOf d) c else sndPay P (hopOf d) c

def dutiesOf : SemLoc sig → Finset (Fin 4)
  | .reg _ => Finset.univ
  | .dma d => if 5 ≤ d.val then {0} else ∅

def amountOf : SemLoc sig → ℕ
  | .reg _ => 1
  | .dma d => amt (hopOf d).2.2

instance gift_storable (p : Dev nD) (s : Fin 2) (k : Fin 4) : BI.Storable (upEmb : UEmb _ 𝕄) (gift p s k) := by
  unfold gift; infer_instance

def Rd (P : Dev nD → Arr F) : Rounds.Schedule (GSem nD τ sig) (Fin 4) 𝕄 where
  duties g r := if r = 0 ∧ g.1.2 = .tc then dutiesOf g.2 else ∅
  unitless _ := False
  amount g _ _ := amountOf g.2
  payload g _ i := payOf P g.1.1 i g.2
  amount_pos g _ _ _ := by
    unfold amountOf
    split
    · exact Nat.one_pos
    · exact amt_pos _

instance Rd_storable (P : Dev nD → Arr F) (g : GSem nD τ sig) (r : ℕ) (i : Fin 4) :
    BI.Storable (upEmb : UEmb _ 𝕄) ((Rd P).payload g r i) := by
  show BI.Storable upEmb (payOf P g.1.1 i g.2)
  unfold payOf barPay rcvPay sndPay
  (repeat' split) <;> infer_instance

section Sched

variable (P : Dev nD → Arr F) (c : Dev nD) (h : Hop)

theorem duties_bar : (Rd P).duties (barCell c) 0 = Finset.univ := by
  show (if (0 : ℕ) = 0 ∧ (Proc.tc : Proc τ) = Proc.tc then dutiesOf (.reg barS) else ∅) = _
  rw [if_pos ⟨rfl, rfl⟩]; rfl
theorem duties_snd : (Rd P).duties (sndCell h c) 0 = {0} := by
  show (if (0 : ℕ) = 0 ∧ (Proc.tc : Proc τ) = Proc.tc then (if 5 ≤ (sndS h).val then ({0} : Finset (Fin 4)) else ∅) else ∅) = _
  rw [if_pos ⟨rfl, rfl⟩, if_pos (five_le_sndS h)]
theorem duties_rcv : (Rd P).duties (rcvCell h c) 0 = {0} := by
  show (if (0 : ℕ) = 0 ∧ (Proc.tc : Proc τ) = Proc.tc then (if 5 ≤ (rcvS h).val then ({0} : Finset (Fin 4)) else ∅) else ∅) = _
  rw [if_pos ⟨rfl, rfl⟩, if_pos (five_le_rcvS h)]
theorem duties_later (g : GSem nD τ sig) : ∀ r, 1 ≤ r → (Rd P).duties g r = ∅ := fun r hr => if_neg fun h => by omega

theorem amount_bar (i : Fin 4) : (Rd P).amount (barCell c) 0 i = 1 := rfl
theorem amount_snd (i : Fin 4) : (Rd P).amount (sndCell h c) 0 i = amt h.2.2 := by
  show amt (hopOf (sndS h)).2.2 = _; rw [hopOf_sndS]
theorem amount_rcv (i : Fin 4) : (Rd P).amount (rcvCell h c) 0 i = amt h.2.2 := by
  show amt (hopOf (rcvS h)).2.2 = _; rw [hopOf_rcvS]

theorem expect_bar : (Rd P).expect (barCell c) 0 = 4 := by
  unfold Schedule.expect Schedule.amountOf; rw [duties_bar]; rfl
theorem expect_snd : (Rd P).expect (sndCell h c) 0 = amt h.2.2 := by
  unfold Schedule.expect Schedule.amountOf; rw [duties_snd, Finset.sum_singleton, amount_snd]
theorem expect_rcv : (Rd P).expect (rcvCell h c) 0 = amt h.2.2 := by
  unfold Schedule.expect Schedule.amountOf; rw [duties_rcv, Finset.sum_singleton, amount_rcv]

theorem payload_bar (i : Fin 4) : (Rd P).payload (barCell c) 0 i = barPay c i := rfl
theorem payload_snd (i : Fin 4) : (Rd P).payload (sndCell h c) 0 i = sndPay P h c := by
  show (if isRcv (sndS h) = true then rcvPay P (hopOf (sndS h)) c else sndPay P (hopOf (sndS h)) c) = _
  rw [isRcv_sndS, if_neg (by decide), hopOf_sndS]
theorem payload_rcv (i : Fin 4) : (Rd P).payload (rcvCell h c) 0 i = rcvPay P h c := by
  show (if isRcv (rcvS h) = true then rcvPay P (hopOf (rcvS h)) c else sndPay P (hopOf (rcvS h)) c) = _
  rw [isRcv_rcvS, if_pos rfl, hopOf_rcvS]

theorem rest_bar : bigSep ((Rd P).duties (barCell c) 0 \ ∅) (fun i => (Rd P).payload (barCell c) 0 i)
    = iprop(barPay c 0 ∗ barPay c 1 ∗ barPay c 2 ∗ barPay c 3) := by
  rw [Finset.sdiff_empty, duties_bar]
  exact bigSep_univ_eq_bigSepL [(0 : Fin 4), 1, 2, 3] (by decide) (by decide) _
theorem rest_snd : bigSep ((Rd P).duties (sndCell h c) 0 \ ∅) (fun i => (Rd P).payload (sndCell h c) 0 i) = sndPay P h c := by
  rw [Finset.sdiff_empty, duties_snd, bigSep_singleton, payload_snd]
theorem rest_rcv : bigSep ((Rd P).duties (rcvCell h c) 0 \ ∅) (fun i => (Rd P).payload (rcvCell h c) 0 i) = rcvPay P h c := by
  rw [Finset.sdiff_empty, duties_rcv, bigSep_singleton, payload_rcv]

end Sched

/-! ## What a device owes -/

/-- The hops in the order every device starts them. -/
def hops : List Hop :=
  [(0, 0, 0), (0, 1, 0), (0, 0, 1), (0, 1, 1), (0, 0, 2), (0, 1, 2), (0, 0, 3), (0, 1, 3),
   (1, 0, 3), (1, 1, 3), (1, 0, 2), (1, 1, 2), (1, 0, 1), (1, 1, 1), (1, 0, 0), (1, 1, 0)]

/-- Receive credits a device has yet to pay: those of the hops it has yet to start. -/
def Ow (c : Dev nD) : List Hop → CellTallies nD τ sig Unit
  | [] => 0
  | h :: l => Ow c l + tallyAt (rcvCell h (tgt h c)) () (amt h.2.2)

/-- With its barrier signals to the neighbours across the dimensions of a list. -/
def Ob (c : Dev nD) : List (Fin 4) → CellTallies nD τ sig Unit
  | [] => Ow c hops
  | i :: l => Ob c l + tallyAt (barCell (flip i c)) () 1

/-- What a device owes from launch. -/
abbrev O₀ (c : Dev nD) : CellTallies nD τ sig Unit := Ob c [0, 1, 2, 3]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The place of a hop in the order. -/
def rank (h : Hop) : ℕ := if h.1 = 0 then 2 * h.2.2.val + h.2.1.val else 8 + 2 * (3 - h.2.2.val) + h.2.1.val

def levOf : SemLoc sig → ℕ
  | .reg _ => 1
  | .dma d => if isRcv d = true ∧ 5 ≤ d.val then 2 + rank (hopOf d) else 0
def lv (g : GSem nD τ sig) (_ : Unit) : ℕ := levOf g.2

theorem lv_rcv (h : Hop) (c : Dev nD) (u : Unit) : lv (rcvCell h c) u = 2 + rank h := by
  show (if isRcv (rcvS h) = true ∧ 5 ≤ (rcvS h).val then 2 + rank (hopOf (rcvS h)) else 0) = _
  rw [if_pos ⟨isRcv_rcvS h, five_le_rcvS h⟩, hopOf_rcvS]
theorem lv_snd (h : Hop) (c : Dev nD) (u : Unit) : lv (sndCell h c) u = 0 := by
  show (if isRcv (sndS h) = true ∧ 5 ≤ (sndS h).val then 2 + rank (hopOf (sndS h)) else 0) = _
  rw [if_neg fun e => by rw [isRcv_sndS] at e; exact absurd e.1 (by decide)]

/-- What is owed is owed to receive cells of the list's hops. -/
theorem Ow_pos (c : Dev nD) : ∀ (l : List Hop) (g : GSem nD τ sig) (u : Unit), 0 < Ow c l g u → ∃ h ∈ l, g = rcvCell h (tgt h c)
  | [], g, u, H => absurd H (Nat.lt_irrefl 0)
  | h :: l, g, u, H => by
    unfold Ow at H
    rw [Pi.add_apply, Finsupp.add_apply] at H
    rcases Nat.add_pos_iff_pos_or_pos.mp H with H | H
    · obtain ⟨h', hl, e⟩ := Ow_pos c l g u H
      exact ⟨h', List.mem_cons_of_mem _ hl, e⟩
    · rw [tallyAt_apply] at H
      split at H
      · next e => exact ⟨h, List.mem_cons_self, e.1⟩
      · exact absurd H (Nat.lt_irrefl 0)

theorem Ob_pos (c : Dev nD) : ∀ (l : List (Fin 4)) (g : GSem nD τ sig) (u : Unit), 0 < Ob c l g u →
    (∃ i ∈ l, g = barCell (flip i c)) ∨ ∃ h, g = rcvCell h (tgt h c)
  | [], g, u, H => by obtain ⟨h, -, e⟩ := Ow_pos c hops g u H; exact .inr ⟨h, e⟩
  | i :: l, g, u, H => by
    unfold Ob at H
    rw [Pi.add_apply, Finsupp.add_apply] at H
    rcases Nat.add_pos_iff_pos_or_pos.mp H with H | H
    · rcases Ob_pos c l g u H with ⟨i', hl, e⟩ | e
      · exact .inl ⟨i', List.mem_cons_of_mem _ hl, e⟩
      · exact .inr e
    · rw [tallyAt_apply] at H
      split at H
      · next e => exact .inl ⟨i, List.mem_cons_self, e.1⟩
      · exact absurd H (Nat.lt_irrefl 0)

/-- A wait on a cell below the level of every hop still to start. -/
theorem mayWait (c : Dev nD) (sm : SemLoc sig) (l : List Hop) (hl : ∀ h ∈ l, levOf sm < 2 + rank h) :
    (levAts L lv : sProp 𝕄) ⊢ MayWait (c : Thread nD τ) sm () (Ow c l) :=
  MayOwe.of_cut (L := L) (lev := lv) (levOf sm)
    (fun p hp => by rw [Finset.mem_singleton.mp hp, L_tc]; exact Finset.mem_singleton_self _)
    (fun g u hg => by obtain ⟨h, -, rfl⟩ := Ow_pos c l g u hg; rw [L_tc]; exact Finset.mem_singleton_self _)
    (fun p hp => by rw [Finset.mem_singleton.mp hp]; exact le_refl _)
    (fun g u hg => by obtain ⟨h, hm, rfl⟩ := Ow_pos c l g u hg; rw [lv_rcv]; exact hl h hm)

end Cert.KernelIdeal.Net

end
-- ==== Proof.Steps.lean ====
/-
  The exchange's steps: one lemma per kind of operation, at any stream, level and device.

  `send_reduce` and `send_gather` start a copy; `wait_send`, `wait_reduce` and `wait_gather` wait for one and put the
  semaphore's counter back in hand; `signal_flip` and `wait_bar` are the barrier; `store_sum` writes a block's
  sum with what landed.
-/
module

public import proofs.«01_k».proof.Proof.Proto

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, and the invariants of all of them -/

/-- The exchange's own semaphores: a hop's send semaphore and its receive semaphore. -/
abbrev osem (x : Hop × Fin 2) : SemLoc sig := if x.2 = 0 then .dma (sndS x.1) else .dma (rcvS x.1)

theorem osem_inj : Function.Injective osem := by
  intro x y h
  have e : ∀ x : Hop × Fin 2, osem x = .dma (if x.2 = 0 then sndS x.1 else rcvS x.1) := fun x => by
    unfold osem; split <;> rfl
  rw [e, e] at h
  have h' := SemLoc.dma.inj h
  revert x y
  decide +kernel

theorem osem_ne_bar (x : Hop × Fin 2) : osem x ≠ .reg barS := by
  unfold osem; split <;> exact fun h => by cases h

def barEmb : Dev nD ↪ GSem nD τ sig := ⟨fun c => barCell c, fun _ _ h => congrArg (fun g : GSem nD τ sig => g.1.1) h⟩
def scEmb : Dev nD × (Hop × Fin 2) ↪ GSem nD τ sig :=
  ⟨fun cx => ((cx.1 : Thread nD τ), osem cx.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem snd_mem (h : Hop) (c : Dev nD) : sndCell h c ∈ (barCells ∪ scCells : Finset (GSem nD τ sig)) :=
  Finset.mem_union_right _ (Finset.mem_map_of_mem scEmb (Finset.mem_univ (c, (h, (0 : Fin 2)))))
theorem rcv_mem (h : Hop) (c : Dev nD) : rcvCell h c ∈ (barCells ∪ scCells : Finset (GSem nD τ sig)) :=
  Finset.mem_union_right _ (Finset.mem_map_of_mem scEmb (Finset.mem_univ (c, (h, (1 : Fin 2)))))

variable (P : Dev nD → Arr F)

/-- The invariants of all the cells, under one map of names. -/
def invs (K : GSem nD τ sig → ℕ) : sProp 𝕄 := bigSep (barCells ∪ scCells) fun g => cellInv ER (Rd P) (K g) g

instance invs_persistent (K : GSem nD τ sig → ℕ) : BI.Persistent (invs P K) := by unfold invs; infer_instance

theorem inv_at (K : GSem nD τ sig → ℕ) {g : GSem nD τ sig} (hg : g ∈ (barCells ∪ scCells : Finset (GSem nD τ sig))) :
    invs P K ⊢ cellInv ER (Rd P) (K g) g := bigSep_elim hg

/-- What every step consults: the invariants, and the levels of the cells. -/
def ctx (K : GSem nD τ sig → ℕ) : sProp 𝕄 := iprop(invs P K ∗ levAts L lv)

instance ctx_persistent (K : GSem nD τ sig → ℕ) : BI.Persistent (ctx P K) := by unfold ctx; infer_instance

theorem ctx_inv (K : GSem nD τ sig → ℕ) {g : GSem nD τ sig} (hg : g ∈ (barCells ∪ scCells : Finset (GSem nD τ sig))) :
    ctx P K ⊢ cellInv ER (Rd P) (K g) g := (sep_elim_left (P := invs P K) (Q := levAts L lv)).trans (inv_at P K hg)
theorem ctx_lev (K : GSem nD τ sig → ℕ) : ctx P K ⊢ levAts L lv := sep_elim_right (P := invs P K) (Q := levAts L lv)

/-! ## A hop's state -/

/-- Before the hop starts. -/
def armed (h : Hop) (c : Dev nD) : sProp 𝕄 :=
  iprop(atPos ER (sndCell h c) 0 ∅ 0 ∗ reached ER (sndCell h c) 0 ∗ dutyTok ER (sndCell h c) 0 0
    ∗ dutyTok ER (rcvCell h (tgt h c)) 0 0)
/-- The own send, to be waited for. -/
def flyS (h : Hop) (c : Dev nD) : sProp 𝕄 := iprop(atPos ER (sndCell h c) 0 ∅ 0 ∗ cred (tallyAt (sndCell h c) () (amt h.2.2)))
/-- The partner's copy, to be waited for. -/
def flyR (h : Hop) (c : Dev nD) : sProp 𝕄 := iprop(atPos ER (rcvCell h c) 0 ∅ 0 ∗ cred (tallyAt (rcvCell h c) () (amt h.2.2)))
/-- What device `c` owes once only the hops of `l` are to start. -/
def owe (c : Dev nD) (l : List Hop) : sProp 𝕄 := iprop(∃ W, owes (c : Thread nD τ) (Ow c l) W)

theorem close (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later P g)

/-! ## Views of blocks -/

section Views

variable (c : Dev nD)

theorem out_slice (r : Rect S1024x768) (h) (S : Finset Ix) (hS : r.set = S) (f : Arr F) :
    ((oM.slice r h).view.loc (c : Thread nD τ) ↦[(oM.slice r h).view.set]{fullShare} f : sProp 𝕄) = oAt c S f := by
  subst hS
  exact congrArg (fun T : Finset Ix => oAt c T f) (View.set_slice_whole cc0_stg4_0 r)

theorem land_slice (r : Rect S1024x768) (h) (S : Finset Ix) (hS : r.set = S) (f : Arr F) :
    ((rM.slice r h).view.loc (c : Thread nD τ) ↦[(rM.slice r h).view.set]{fullShare} f : sProp 𝕄) = rAt c S f := by
  subst hS
  exact congrArg (fun T : Finset Ix => rAt c T f) (View.set_slice_whole cc0_scratch1 r)

/-- A copied view's elements, read through the source at the same place of the rectangle. -/
theorem copy_land {n : ℕ} (r r' : Fin 2 → ℕ) {inb inb'} (h h') (fs fd : Arr F)
    (x : (⟨2, ![n, 384]⟩ : Shape).Idx) :
    ((rM.slice (Rect.unit (s := S1024x768) r' (⟨2, ![n, 384]⟩ : Shape).size inb') h').view.write (Elt F) fd
        ((oM.slice (Rect.unit (s := S1024x768) r (⟨2, ![n, 384]⟩ : Shape).size inb) h).view.read (Elt F) fs) Finset.univ : Arr F)
        ((Rect.unit (s := S1024x768) r' (⟨2, ![n, 384]⟩ : Shape).size inb').emb x)
      = fs ((Rect.unit (s := S1024x768) r (⟨2, ![n, 384]⟩ : Shape).size inb).emb x) :=
  View.write_emb_of_mem (v := (rM.slice (Rect.unit (s := S1024x768) r' (⟨2, ![n, 384]⟩ : Shape).size inb') h').view) fd _ (Finset.mem_univ x)

theorem copy_out {n : ℕ} (r : Fin 2 → ℕ) {inb inb'} (h h') (fs fd : Arr F)
    (x : (⟨2, ![n, 384]⟩ : Shape).Idx) :
    ((oM.slice (Rect.unit (s := S1024x768) r (⟨2, ![n, 384]⟩ : Shape).size inb') h').view.write (Elt F) fd
        ((oM.slice (Rect.unit (s := S1024x768) r (⟨2, ![n, 384]⟩ : Shape).size inb) h).view.read (Elt F) fs) Finset.univ : Arr F)
        ((Rect.unit (s := S1024x768) r (⟨2, ![n, 384]⟩ : Shape).size inb').emb x)
      = fs ((Rect.unit (s := S1024x768) r (⟨2, ![n, 384]⟩ : Shape).size inb).emb x) :=
  View.write_emb_of_mem (v := (oM.slice (Rect.unit (s := S1024x768) r (⟨2, ![n, 384]⟩ : Shape).size inb') h').view) fd _ (Finset.mem_univ x)

/-- The place of a landed element in the block it was copied from. -/
theorem shift_emb (s : Fin 2) (k : Fin 4) {inb inb'} (x : (Sh k).Idx) :
    shift s k c ((Rect.unit (s := S1024x768) ![land k, 384 * s.val] (Sh k).size inb').emb x)
      = (Rect.unit (s := S1024x768) ![row s k c, 384 * s.val] (Sh k).size inb).emb x := by
  have h0 : (x 0).val < ht k := (x 0).isLt
  have hr := row_le s k c
  have e0 : ((Rect.unit (s := S1024x768) ![land k, 384 * s.val] (Sh k).size inb').emb x 0).val = land k + (x 0).val := emb_val (S := S1024x768) ![land k, 384 * s.val] (Sh k).size x 0
  have e1 : ((Rect.unit (s := S1024x768) ![land k, 384 * s.val] (Sh k).size inb').emb x 1).val = 384 * s.val + (x 1).val := emb_val (S := S1024x768) ![land k, 384 * s.val] (Sh k).size x 1
  have f0 : ((Rect.unit (s := S1024x768) ![row s k c, 384 * s.val] (Sh k).size inb).emb x 0).val = row s k c + (x 0).val := emb_val (S := S1024x768) ![row s k c, 384 * s.val] (Sh k).size x 0
  have f1 : ((Rect.unit (s := S1024x768) ![row s k c, 384 * s.val] (Sh k).size inb).emb x 1).val = 384 * s.val + (x 1).val := emb_val (S := S1024x768) ![row s k c, 384 * s.val] (Sh k).size x 1
  funext a
  match a with
  | ⟨0, _⟩ =>
    refine Fin.ext (Eq.trans ?_ f0.symm)
    show ((_ : Fin _).val - land k + row s k c) % 1024 = _
    rw [e0, Nat.mod_eq_of_lt] <;> omega
  | ⟨1, _⟩ => exact Fin.ext (e1.trans f1.symm)

end Views

/-! ## Starting a copy -/

section Steps

variable (K : GSem nD τ sig → ℕ) (c : Dev nD)

set_option maxHeartbeats 800000 in
theorem send_reduce {α : Type} (s : Fin 2) (k : Fin 4) (l : List Hop) (f : Arr F) {c' : Dev nD} {n : ℕ} {off off' : Fin 2 → ℕ} {inb inb' hstr hstr' hsc} {sS sR : DmaSem sig}
    {hsrc hdst hsem} {kk : PUnit → Prog (TpuEff nD τ sig (Elt F) Λ₀ .tc) α} {Q : α → sProp 𝕄}
    (hc : c' = peer s k c) (hn : n = ht k) (hoff : off = ![row s k (peer s k c), 384 * s.val]) (hoff' : off' = ![land k, 384 * s.val])
    (hS : sS = sndS (0, s, k)) (hR : sR = rcvS (0, s, k)) :
    ctx P K ⊢ iprop(armed (0, s, k) c -∗ oAt c (blk s k (peer s k c)) (vv P s k c) -∗ rAt (peer s k c) (slot s k) f
      -∗ reached ER (rcvCell (0, s, k) (peer s k c)) 0 -∗ owe c ((0, s, k) :: l)
      -∗ ((flyS (0, s, k) c ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (oM.slice (Rect.unit (s := S1024x768) off (⟨2, ![n, 384]⟩ : Shape).size inb) hstr)
            (.remote (Dev.tc c') (rM.slice (Rect.unit (s := S1024x768) off' (⟨2, ![n, 384]⟩ : Shape).size inb') hstr') (.dma sS) hsc) (.dma sR) hsrc hdst hsem) kk) Q) := by
  subst hc hn hoff hoff' hS hR
  have es : (Rect.unit (s := S1024x768) ![row s k (peer s k c), 384 * s.val] (Sh k).size inb).set = blk s k (peer s k c) := set_unit rfl
  have ed : (Rect.unit (s := S1024x768) ![land k, 384 * s.val] (Sh k).size inb').set = slot s k := set_unit rfl
  unfold armed owe flyS
  iintro #HI ⟨Hat, #HrS, HtS, HtR⟩ Ho Hr #Hre ⟨%W, HO⟩ HK
  iapply (Rounds.wp_send_landing_pointsTo 𝒱₀ ER (Rd P) (c : Thread nD τ) none
      (c' := (peer s k c : Thread nD τ))
      (src := oM.slice (Rect.unit (s := S1024x768) ![row s k (peer s k c), 384 * s.val] (Sh k).size inb) hstr)
      (dst := rM.slice (Rect.unit (s := S1024x768) ![land k, 384 * s.val] (Sh k).size inb') hstr')
      (sS := .dma (sndS (0, s, k))) (sem := .dma (rcvS (0, s, k))) (q := fullShare) (fs := vv P s k c) (fd := f)
      (r₁ := 0) (r₂ := 0) (d₁ := 0) (d₂ := 0) (κ₁ := K (sndCell (0, s, k) c)) (κ₂ := K (rcvCell (0, s, k) (peer s k c)))
      (by rw [duties_snd]; exact Finset.mem_singleton_self _) (by rw [duties_rcv]; exact Finset.mem_singleton_self _)
      () () (amt k) rfl (amount_snd P c (0, s, k) 0) (amount_rcv P (peer s k c) (0, s, k) 0) (Ow c l) rfl (W := W)
      (by rw [payload_snd]; exact BI.Entails.refl _)
      (by
        rw [payload_rcv, out_slice c _ _ _ es, land_slice (peer s k c) _ _ _ ed]
        unfold rcvPay tgt
        rw [if_pos rfl]
        dsimp only
        rw [peer_peer]
        refine sep_mono_left (Entails.of_eq (pointsTo_congr fun i hi => ?_))
        have hi' : i ∈ (Rect.unit (s := S1024x768) ![land k, 384 * s.val] (Sh k).size inb').set := by rw [ed]; exact hi
        obtain ⟨x, rfl⟩ := exists_emb hi'
        refine Eq.trans (copy_land (n := ht k) ![row s k (peer s k c), 384 * s.val] ![land k, 384 * s.val] hstr hstr' (vv P s k c) f x) ?_
        unfold got
        rw [peer_peer, shift_emb])) $$ [Ho Hr HO HtS HtR]
  · isplitr; · iapply (ctx_inv P K (snd_mem (0, s, k) c)) $$ HI
    isplitr; · iapply (ctx_inv P K (rcv_mem (0, s, k) (peer s k c))) $$ HI
    isplitl [Ho]; · iapply (Entails.of_eq (out_slice c _ hstr _ es _).symm) $$ Ho
    isplitl [Hr]; · iapply (Entails.of_eq (land_slice (peer s k c) _ hstr' _ ed _).symm) $$ Hr
    isplitl [HO]; · iexact HO
    isplitl [HtS]; · iexact HtS
    isplitr; · iexact HrS
    isplitl [HtR]; · iexact HtR
    iexact Hre
  iintro ⟨HcS, HO⟩
  iapply HK
  isplitl [Hat HcS]
  · isplitl [Hat] <;> iassumption
  iexists W; iexact HO

set_option maxHeartbeats 800000 in
theorem send_gather {α : Type} (s : Fin 2) (k : Fin 4) (l : List Hop) (f : Arr F) {c' : Dev nD} {n : ℕ} {off : Fin 2 → ℕ} {inb inb' hstr hstr' hsc} {sS sR : DmaSem sig}
    {hsrc hdst hsem} {kk : PUnit → Prog (TpuEff nD τ sig (Elt F) Λ₀ .tc) α} {Q : α → sProp 𝕄}
    (hc : c' = peer s k c) (hn : n = ht k) (hoff : off = ![row s k c, 384 * s.val])
    (hS : sS = sndS (1, s, k)) (hR : sR = rcvS (1, s, k)) :
    ctx P K ⊢ iprop(armed (1, s, k) c -∗ oAt c (blk s k c) (fin P s) -∗ oAt (peer s k c) (blk s k c) f
      -∗ reached ER (rcvCell (1, s, k) (peer s k c)) 0 -∗ owe c ((1, s, k) :: l)
      -∗ ((flyS (1, s, k) c ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (oM.slice (Rect.unit (s := S1024x768) off (⟨2, ![n, 384]⟩ : Shape).size inb) hstr)
            (.remote (Dev.tc c') (oM.slice (Rect.unit (s := S1024x768) off (⟨2, ![n, 384]⟩ : Shape).size inb') hstr') (.dma sS) hsc) (.dma sR) hsrc hdst hsem) kk) Q) := by
  subst hc hn hoff hS hR
  have es : (Rect.unit (s := S1024x768) ![row s k c, 384 * s.val] (Sh k).size inb).set = blk s k c := set_unit rfl
  have ed : (Rect.unit (s := S1024x768) ![row s k c, 384 * s.val] (Sh k).size inb').set = blk s k c := set_unit rfl
  unfold armed owe flyS
  iintro #HI ⟨Hat, #HrS, HtS, HtR⟩ Ho Hr #Hre ⟨%W, HO⟩ HK
  iapply (Rounds.wp_send_pointsTo 𝒱₀ ER (Rd P) (c : Thread nD τ) none
      (c' := (peer s k c : Thread nD τ))
      (src := oM.slice (Rect.unit (s := S1024x768) ![row s k c, 384 * s.val] (Sh k).size inb) hstr)
      (dst := oM.slice (Rect.unit (s := S1024x768) ![row s k c, 384 * s.val] (Sh k).size inb') hstr')
      (sS := .dma (sndS (1, s, k))) (sem := .dma (rcvS (1, s, k))) (q := fullShare) (fs := fin P s) (fd := f)
      (r₁ := 0) (r₂ := 0) (d₁ := 0) (d₂ := 0) (κ₁ := K (sndCell (1, s, k) c)) (κ₂ := K (rcvCell (1, s, k) (peer s k c)))
      (by rw [duties_snd]; exact Finset.mem_singleton_self _) (by rw [duties_rcv]; exact Finset.mem_singleton_self _)
      () () (amt k) rfl (amount_snd P c (1, s, k) 0) (amount_rcv P (peer s k c) (1, s, k) 0) (Ow c l) rfl (W := W)
      (by
        rw [payload_snd, out_slice c _ _ _ es]
        unfold sndPay
        rw [if_neg (fun h : (1 : Fin 2) = 0 => absurd h (by decide))])
      (by
        rw [payload_rcv, out_slice (peer s k c) _ _ _ ed]
        unfold rcvPay tgt
        rw [if_neg (fun h : (1 : Fin 2) = 0 => absurd h (by decide))]
        dsimp only
        rw [peer_peer]
        refine Entails.of_eq (pointsTo_congr fun i hi => ?_)
        have hi' : i ∈ (Rect.unit (s := S1024x768) ![row s k c, 384 * s.val] (Sh k).size inb').set := by rw [ed]; exact hi
        obtain ⟨x, rfl⟩ := exists_emb hi'
        exact copy_out (n := ht k) ![row s k c, 384 * s.val] hstr hstr' (fin P s) f x)) $$ [Ho Hr HO HtS HtR]
  · isplitr; · iapply (ctx_inv P K (snd_mem (1, s, k) c)) $$ HI
    isplitr; · iapply (ctx_inv P K (rcv_mem (1, s, k) (peer s k c))) $$ HI
    isplitl [Ho]; · iapply (Entails.of_eq (out_slice c _ hstr _ es _).symm) $$ Ho
    isplitl [Hr]; · iapply (Entails.of_eq (out_slice (peer s k c) _ hstr' _ ed _).symm) $$ Hr
    isplitl [HO]; · iexact HO
    isplitl [HtS]; · iexact HtS
    isplitr; · iexact HrS
    isplitl [HtR]; · iexact HtR
    iexact Hre
  iintro ⟨HcS, HO⟩
  iapply HK
  isplitl [Hat HcS]
  · isplitl [Hat] <;> iassumption
  iexists W; iexact HO

/-! ## Waiting -/

/-- A wait for the own send: its payload comes, and its counter. -/
theorem wait_send {α : Type} (h : Hop) (l : List Hop) {sm : DmaSem sig} (hS : sm = sndS h) {sp sp' : Space} {z z' : Shape} {e e' : EltTy}
    {src : Memref sig .tc sp' z' e'} {κ' : Kind} {dst : Memref sig κ' sp z e} {hsrc hdst} (hA : dst.view.dmaCredit = amt h.2.2)
    {kk : PUnit → Prog (TpuEff nD τ sig (Elt F) Λ₀ .tc) α} {Q : α → sProp 𝕄} :
    ctx P K ⊢ iprop(flyS h c -∗ owe c l
      -∗ ((sndPay P h c ∗ semVal (sndCell h c) 0 ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  subst hS
  unfold owe flyS
  iintro #HI ⟨Hat, Hc⟩ ⟨%W, HO⟩ HK
  iapply (Rounds.wp_wait_rest_token 𝒱₀ ER (Rd P) (c : Thread nD τ) none (κ := K (sndCell h c)) (k' := amt h.2.2)
      (fun Kc => (wpE_waitDma2_eq 𝒱₀ (c : Thread nD τ) none Set.univ Kc).trans (by rw [hA])) (Set.mem_univ _) () (O := Ow c l) (W := W) (R := 0) (m := 0) (T := ∅)
      ((Nat.zero_add _).trans (expect_snd P c h).symm)) $$ [Hc HO Hat]
  · isplitr; · iapply (ctx_inv P K (snd_mem h c)) $$ HI
    isplitl [Hc]; · iexact Hc
    isplitl [HO]; · iexact HO
    isplitr
    · iapply (mayWait c (.dma (sndS h)) l (fun h' _ => by have := lv_snd h c (); unfold lv at this; dsimp only at this; omega))
      iapply (ctx_lev P K) $$ HI
    iexact Hat
  iintro ⟨HO, Hat, -, Hpay⟩
  ihave Hp := (Entails.of_eq (rest_snd P c h)) $$ Hpay
  imod (close P (K (sndCell h c)) (sndCell h c)) $$ [Hat] with Hv
  · isplitr; · iapply (ctx_inv P K (snd_mem h c)) $$ HI
    iexact Hat
  iapply HK
  isplitl [Hp]; · iexact Hp
  isplitl [Hv]; · iexact Hv
  iexists _; iexact HO

/-- A wait for the partner's copy, under hops that come later. -/
theorem wait_recv {α : Type} (h : Hop) (l : List Hop) (hl : ∀ h' ∈ l, rank h < rank h') {sm : DmaSem sig} (hS : sm = rcvS h) {sp sp' : Space} {z z' : Shape} {e e' : EltTy}
    {src : Memref sig .tc sp' z' e'} {κ' : Kind} {dst : Memref sig κ' sp z e} {hsrc hdst} (hA : dst.view.dmaCredit = amt h.2.2)
    {kk : PUnit → Prog (TpuEff nD τ sig (Elt F) Λ₀ .tc) α} {Q : α → sProp 𝕄} :
    ctx P K ⊢ iprop(flyR h c -∗ owe c l
      -∗ ((rcvPay P h c ∗ semVal (rcvCell h c) 0 ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  subst hS
  unfold owe flyR
  iintro #HI ⟨Hat, Hc⟩ ⟨%W, HO⟩ HK
  iapply (Rounds.wp_wait_rest_token 𝒱₀ ER (Rd P) (c : Thread nD τ) none (κ := K (rcvCell h c)) (k' := amt h.2.2)
      (fun Kc => (wpE_waitDma2_eq 𝒱₀ (c : Thread nD τ) none Set.univ Kc).trans (by rw [hA])) (Set.mem_univ _) () (O := Ow c l) (W := W) (R := 0) (m := 0) (T := ∅)
      ((Nat.zero_add _).trans (expect_rcv P c h).symm)) $$ [Hc HO Hat]
  · isplitr; · iapply (ctx_inv P K (rcv_mem h c)) $$ HI
    isplitl [Hc]; · iexact Hc
    isplitl [HO]; · iexact HO
    isplitr
    · iapply (mayWait c (.dma (rcvS h)) l (fun h' hh => by have := lv_rcv h c (); have := hl h' hh; unfold lv at *; dsimp only at *; omega))
      iapply (ctx_lev P K) $$ HI
    iexact Hat
  iintro ⟨HO, Hat, -, Hpay⟩
  ihave Hp := (Entails.of_eq (rest_rcv P c h)) $$ Hpay
  imod (close P (K (rcvCell h c)) (rcvCell h c)) $$ [Hat] with Hv
  · isplitr; · iapply (ctx_inv P K (rcv_mem h c)) $$ HI
    iexact Hat
  iapply HK
  isplitl [Hp]; · iexact Hp
  isplitl [Hv]; · iexact Hv
  iexists _; iexact HO

theorem rcvPay_reduce (s : Fin 2) (k : Fin 4) :
    rcvPay P (0, s, k) c = iprop(rAt c (slot s k) (got P s k c) ∗ oAt (peer s k c) (blk s k c) (vv P s k.val (peer s k c))) := if_pos rfl
theorem rcvPay_gather (s : Fin 2) (k : Fin 4) : rcvPay P (1, s, k) c = oAt c (blk s k (peer s k c)) (fin P s) := if_neg (fun h : (1 : Fin 2) = 0 => absurd h (by decide))
theorem sndPay_reduce (s : Fin 2) (k : Fin 4) : sndPay P (0, s, k) c = iprop(emp) := if_pos rfl
theorem sndPay_gather (s : Fin 2) (k : Fin 4) : sndPay P (1, s, k) c = oAt c (blk s k c) (fin P s) := if_neg (fun h : (1 : Fin 2) = 0 => absurd h (by decide))

/-! ## The barrier -/

/-- What device `c` owes before the signals of a list. -/
def oweB (c : Dev nD) (l : List (Fin 4)) : sProp 𝕄 := iprop(∃ W, owes (c : Thread nD τ) (Ob c l) W)

theorem signal_flip {α : Type} (i : Fin 4) (l : List (Fin 4)) {c' : Dev nD} (hc : c' = flip i c) {kk : PUnit → Prog (TpuEff nD τ sig (Elt F) Λ₀ .tc) α} {Q : α → sProp 𝕄} :
    ctx P K ⊢ iprop(dutyTok ER (barCell (flip i c)) 0 i -∗ reached ER (barCell (flip i c)) 0 -∗ (gift c 0 (lvl 0 i) ∗ gift c 1 (lvl 1 i)) -∗ oweB c (i :: l)
      -∗ (oweB c l -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (c' : Thread nD τ) barS (1 : ℕ)) kk) Q) := by
  subst hc
  unfold oweB
  iintro #HI Ht #Hr Hg ⟨%W, HO⟩ HK
  iapply (Rounds.wp_signal 𝒱₀ ER (Rd P) (c : Thread nD τ) none (dst := (flip i c : Thread nD τ)) (sem := barS) (r := 0) (d := i) (κ := K (barCell (flip i c)))
      (by rw [duties_bar]; exact Finset.mem_univ _) (amount_bar P (flip i c) i) () (Ob c l) rfl (W := W)) $$ [HO Ht Hg]
  · isplitr; · iapply (ctx_inv P K (bar_mem (flip i c))) $$ HI
    isplitl [HO]; · iexact HO
    isplitl [Ht]; · iexact Ht
    isplitl [Hg]
    · rw [payload_bar]; unfold barPay; rw [flip_flip]; iexact Hg
    iexact Hr
  iintro HO
  iapply HK
  iexists W; iexact HO

/-- The landing areas of all partners, in the order the neighbours hand them over. -/
theorem gifts_eq : bigSep Finset.univ (fun sk : Fin 2 × Fin 4 => (gift (peer sk.1 sk.2 c) sk.1 sk.2 : sProp 𝕄))
    = iprop(gift (peer 0 0 c) 0 0 ∗ gift (peer 1 2 c) 1 2 ∗ gift (peer 0 1 c) 0 1 ∗ gift (peer 1 3 c) 1 3
      ∗ gift (peer 0 2 c) 0 2 ∗ gift (peer 1 0 c) 1 0 ∗ gift (peer 0 3 c) 0 3 ∗ gift (peer 1 1 c) 1 1) :=
  bigSep_univ_eq_bigSepL [((0 : Fin 2), (0 : Fin 4)), (1, 2), (0, 1), (1, 3), (0, 2), (1, 0), (0, 3), (1, 1)] (by decide) (by decide) _

/-- The barrier's wait: every partner's landing area is there, and its semaphores are ready. -/
theorem wait_bar {α : Type} {kk : PUnit → Prog (TpuEff nD τ sig (Elt F) Λ₀ .tc) α} {Q : α → sProp 𝕄} :
    ctx P K ⊢ iprop(atPos ER (barCell c) 0 ∅ 0 -∗ cred (tallyAt (barCell c) () 4) -∗ oweB c []
      -∗ ((bigSep Finset.univ (fun sk : Fin 2 × Fin 4 => gift (peer sk.1 sk.2 c) sk.1 sk.2) ∗ semVal (barCell c) 0 ∗ owe c hops)
          -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS (4 : ℕ)) kk) Q) := by
  unfold oweB owe
  iintro #HI Hat Hc ⟨%W, HO⟩ HK
  iapply (Rounds.wp_wait_rest_token 𝒱₀ ER (Rd P) (c : Thread nD τ) none (κ := K (barCell c))
      (wpE_semWait_eq 𝒱₀ (c : Thread nD τ) none Set.univ) (Set.mem_univ _) () (O := Ow c hops) (W := W) (R := 0) (m := 0) (T := ∅)
      ((Nat.zero_add 4).trans (expect_bar P c).symm)) $$ [Hc HO Hat]
  · isplitr; · iapply (ctx_inv P K (bar_mem c)) $$ HI
    isplitl [Hc]; · iexact Hc
    isplitl [HO]; · iexact HO
    isplitr
    · iapply (mayWait c (.reg barS) hops (fun h _ => by show 1 < _; omega))
      iapply (ctx_lev P K) $$ HI
    iexact Hat
  iintro ⟨HO, Hat, -, Hpay⟩
  ihave Hp := (Entails.of_eq (rest_bar P c)) $$ Hpay
  imod (close P (K (barCell c)) (barCell c)) $$ [Hat] with Hv
  · isplitr; · iapply (ctx_inv P K (bar_mem c)) $$ HI
    iexact Hat
  iapply HK
  isplitl [Hp]
  · iapply (Entails.of_eq (gifts_eq (F := F) c).symm)
    unfold barPay
    icases Hp with ⟨⟨H0, H1⟩, ⟨H2, H3⟩, ⟨H4, H5⟩, ⟨H6, H7⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hv]; · iexact Hv
  iexists _; iexact HO

/-! ## Loads, and the store of a sum -/

theorem load_blk {α : Type} (s : Fin 2) (k : Fin 4) (f : Arr F) {n : ℕ} {off : Fin 2 → ℕ} {inb hl} {Q : α → sProp 𝕄}
    {kk : ((Rect.unit (s := S1024x768) off (⟨2, ![n, 384]⟩ : Shape).size inb).toLoadRect.shape.Idx → Elt F .bf16) → Prog (TpuEff nD τ sig (Elt F) Λ₀ .tc) α}
    (hn : n = ht k) (hoff : off = ![row s k c, 384 * s.val]) :
    oAt c (blk s k c) f ⊢ iprop((oAt c (blk s k c) f -∗ wp frame (wpE (defs₀ (F := F)) 𝒱₀ (c : Thread nD τ) none) Set.univ
          (kk (oM.view.readAt (Elt F) (Rect.unit (s := S1024x768) off (⟨2, ![n, 384]⟩ : Shape).size inb).toLoadRect f)) Q)
      -∗ wp frame (wpE (defs₀ (F := F)) 𝒱₀ (c : Thread nD τ) none) Set.univ
          (.op (.load oM (Rect.unit (s := S1024x768) off (⟨2, ![n, 384]⟩ : Shape).size inb).toLoadRect hl) kk) Q) := by
  subst hn
  have es : (Rect.unit (s := S1024x768) off (Sh k).size inb).set = blk s k c := set_unit hoff
  exact wp_load 𝒱₀ (c : Thread nD τ) none Set.univ (m := oM) (S := blk s k c) (by rw [setOn_oM]; exact es.le)

theorem load_slot {α : Type} (s : Fin 2) (k : Fin 4) (f : Arr F) {n : ℕ} {off : Fin 2 → ℕ} {inb hl} {Q : α → sProp 𝕄}
    {kk : ((Rect.unit (s := S1024x768) off (⟨2, ![n, 384]⟩ : Shape).size inb).toLoadRect.shape.Idx → Elt F .bf16) → Prog (TpuEff nD τ sig (Elt F) Λ₀ .tc) α}
    (hn : n = ht k) (hoff : off = ![land k, 384 * s.val]) :
    rAt c (slot s k) f ⊢ iprop((rAt c (slot s k) f -∗ wp frame (wpE (defs₀ (F := F)) 𝒱₀ (c : Thread nD τ) none) Set.univ
          (kk (rM.view.readAt (Elt F) (Rect.unit (s := S1024x768) off (⟨2, ![n, 384]⟩ : Shape).size inb).toLoadRect f)) Q)
      -∗ wp frame (wpE (defs₀ (F := F)) 𝒱₀ (c : Thread nD τ) none) Set.univ
          (.op (.load rM (Rect.unit (s := S1024x768) off (⟨2, ![n, 384]⟩ : Shape).size inb).toLoadRect hl) kk) Q) := by
  subst hn
  have es : (Rect.unit (s := S1024x768) off (Sh k).size inb).set = slot s k := set_unit hoff
  exact wp_load 𝒱₀ (c : Thread nD τ) none Set.univ (m := rM) (S := slot s k) (by
    rw [show rM.view.setOn (Rect.unit (s := S1024x768) off (Sh k).size inb).toLoadRect.set = (Rect.unit (s := S1024x768) off (Sh k).size inb).toLoadRect.set from Finset.map_refl]; exact es.le)

/-- A block's sum with what landed, stored over the block. -/
theorem store_sum {α : Type} (s : Fin 2) (k : Fin 4) {n : ℕ} {off off' : Fin 2 → ℕ} {inb inb' hl hm} {Q : α → sProp 𝕄} {kk : PUnit → Prog (TpuEff nD τ sig (Elt F) Λ₀ .tc) α}
    {w : FVec F (⟨2, ![n, 384]⟩ : Shape) .bf16}
    (hn : n = ht k) (hoff : off = ![row s k c, 384 * s.val]) (hoff' : off' = ![land k, 384 * s.val])
    (hw : w = addf (oM.view.readAt (Elt F) (Rect.unit (s := S1024x768) off (⟨2, ![n, 384]⟩ : Shape).size inb).toLoadRect (vv P s k.val c))
      (rM.view.readAt (Elt F) (Rect.unit (s := S1024x768) off' (⟨2, ![n, 384]⟩ : Shape).size inb').toLoadRect (got P s k c))) :
    oAt c (blk s k c) (vv P s k.val c) ⊢ iprop((oAt c (blk s k c) (vv P s (k.val + 1) c) -∗ wp frame (wpE (defs₀ (F := F)) 𝒱₀ (c : Thread nD τ) none) Set.univ (kk ⟨⟩) Q)
      -∗ wp frame (wpE (defs₀ (F := F)) 𝒱₀ (c : Thread nD τ) none) Set.univ
          (.op (.store oM (Rect.unit (s := S1024x768) off (⟨2, ![n, 384]⟩ : Shape).size inb) w Finset.univ hl hm) kk) Q) := by
  subst hn hoff hoff' hw
  have es : (Rect.unit (s := S1024x768) ![row s k c, 384 * s.val] (Sh k).size inb).set = blk s k c := set_unit rfl
  iintro Ho HK
  iapply (wp_store 𝒱₀ (c : Thread nD τ) none Set.univ (m := oM)
    (r := Rect.unit (s := S1024x768) ![row s k c, 384 * s.val] (Sh k).size inb) (S := (blk s k c : Finset Ix))
    ((setOn_access_oM _).le.trans es.le)) $$ Ho
  iintro Ho
  iapply HK
  iapply (Entails.of_eq (pointsTo_congr fun i hi => ?_)) $$ Ho
  have hi' : i ∈ (Rect.unit (s := S1024x768) ![row s k c, 384 * s.val] (Sh k).size inb).set := by rw [es]; exact hi
  obtain ⟨x, rfl⟩ := exists_emb hi'
  refine (wr_emb _ _ _ _).trans ?_
  rw [vv_succ]
  show FloatOps.addf (vv P s k.val c _) (got P s k c ((Rect.unit (s := S1024x768) ![land k, 384 * s.val] (Sh k).size inb').emb x)) = _
  unfold got
  rw [shift_emb (inb := inb)]
  rfl

end Steps

end Cert.KernelIdeal.Net

end
-- ==== Proof.Levels.lean ====
/-
  The exchange, level by level: one lemma for a level of the reduction, one for its last level, and one for a level
  of the gather, each at any stream and device. Then where the kernel's printed offsets, devices and semaphores lie.
-/
module

public import proofs.«01_k».proof.Proof.Steps

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Places -/

/-- A level-`k` block's shape, its first row and its columns, as an offset. -/
def isBlk (s : Fin 2) (k : Fin 4) (c : Dev nD) (off : Fin 2 → ℕ) : Prop := off = ![row s k c, 384 * s.val]
def isSlot (s : Fin 2) (k : Fin 4) (off : Fin 2 → ℕ) : Prop := off = ![land k, 384 * s.val]

theorem slot0_0 : isSlot 0 0 ![0, 0] := rfl
theorem slot0_1 : isSlot 0 1 ![512, 0] := rfl
theorem slot0_2 : isSlot 0 2 ![768, 0] := rfl
theorem slot0_3 : isSlot 0 3 ![896, 0] := rfl
theorem slot1_0 : isSlot 1 0 ![0, 384] := rfl
theorem slot1_1 : isSlot 1 1 ![512, 384] := rfl
theorem slot1_2 : isSlot 1 2 ![768, 384] := rfl
theorem slot1_3 : isSlot 1 3 ![896, 384] := rfl

instance (s : Fin 2) (k : Fin 4) (c : Dev nD) (off : Fin 2 → ℕ) : Decidable (isBlk s k c off) := by unfold isBlk; infer_instance

theorem off1_blk : ∀ c : Dev nD, isBlk 0 0 (peer 0 0 c) (k0_off1 c) := by decide +kernel
theorem off2_blk : ∀ c : Dev nD, isBlk 1 0 (peer 1 0 c) (k0_off2 c) := by decide +kernel
theorem off3_blk : ∀ c : Dev nD, isBlk 0 0 c (k0_off3 c) := by decide +kernel
theorem off4_blk : ∀ c : Dev nD, isBlk 0 1 (peer 0 1 c) (k0_off4 c) := by decide +kernel
theorem off5_blk : ∀ c : Dev nD, isBlk 1 0 c (k0_off5 c) := by decide +kernel
theorem off6_blk : ∀ c : Dev nD, isBlk 1 1 (peer 1 1 c) (k0_off6 c) := by decide +kernel
theorem off7_blk : ∀ c : Dev nD, isBlk 0 1 c (k0_off7 c) := by decide +kernel
theorem off8_blk : ∀ c : Dev nD, isBlk 0 2 (peer 0 2 c) (k0_off8 c) := by decide +kernel
theorem off9_blk : ∀ c : Dev nD, isBlk 1 1 c (k0_off9 c) := by decide +kernel
theorem off10_blk : ∀ c : Dev nD, isBlk 1 2 (peer 1 2 c) (k0_off10 c) := by decide +kernel
theorem off11_blk : ∀ c : Dev nD, isBlk 0 2 c (k0_off11 c) := by decide +kernel
theorem off12_blk : ∀ c : Dev nD, isBlk 0 3 (peer 0 3 c) (k0_off12 c) := by decide +kernel
theorem off13_blk : ∀ c : Dev nD, isBlk 1 2 c (k0_off13 c) := by decide +kernel
theorem off14_blk : ∀ c : Dev nD, isBlk 1 3 (peer 1 3 c) (k0_off14 c) := by decide +kernel
theorem off15_blk : ∀ c : Dev nD, isBlk 0 3 c (k0_off15 c) := by decide +kernel
theorem off16_blk : ∀ c : Dev nD, isBlk 0 3 c (k0_off16 c) := by decide +kernel
theorem off17_blk : ∀ c : Dev nD, isBlk 1 3 c (k0_off17 c) := by decide +kernel
theorem off18_blk : ∀ c : Dev nD, isBlk 1 3 c (k0_off18 c) := by decide +kernel
theorem off19_blk : ∀ c : Dev nD, isBlk 0 2 c (k0_off19 c) := by decide +kernel
theorem off20_blk : ∀ c : Dev nD, isBlk 1 2 c (k0_off20 c) := by decide +kernel
theorem off21_blk : ∀ c : Dev nD, isBlk 0 1 c (k0_off21 c) := by decide +kernel
theorem off22_blk : ∀ c : Dev nD, isBlk 1 1 c (k0_off22 c) := by decide +kernel
theorem off23_blk : ∀ c : Dev nD, isBlk 0 0 c (k0_off23 c) := by decide +kernel
theorem off24_blk : ∀ c : Dev nD, isBlk 1 0 c (k0_off24 c) := by decide +kernel

theorem dev1_flip : ∀ c : Dev nD, (⟨k0_dev1 c, k0_dev1_lt c⟩ : Dev nD) = flip 0 c := by decide +kernel
theorem dev2_flip : ∀ c : Dev nD, (⟨k0_dev2 c, k0_dev2_lt c⟩ : Dev nD) = flip 1 c := by decide +kernel
theorem dev3_flip : ∀ c : Dev nD, (⟨k0_dev3 c, k0_dev3_lt c⟩ : Dev nD) = flip 2 c := by decide +kernel
theorem dev4_flip : ∀ c : Dev nD, (⟨k0_dev4 c, k0_dev4_lt c⟩ : Dev nD) = flip 3 c := by decide +kernel
theorem dev5_peer : ∀ c : Dev nD, (⟨k0_dev5 c, k0_dev5_lt c⟩ : Dev nD) = peer 0 0 c := by decide +kernel
theorem dev6_peer : ∀ c : Dev nD, (⟨k0_dev6 c, k0_dev6_lt c⟩ : Dev nD) = peer 1 0 c := by decide +kernel
theorem dev7_peer : ∀ c : Dev nD, (⟨k0_dev7 c, k0_dev7_lt c⟩ : Dev nD) = peer 0 1 c := by decide +kernel
theorem dev8_peer : ∀ c : Dev nD, (⟨k0_dev8 c, k0_dev8_lt c⟩ : Dev nD) = peer 1 1 c := by decide +kernel
theorem dev9_peer : ∀ c : Dev nD, (⟨k0_dev9 c, k0_dev9_lt c⟩ : Dev nD) = peer 0 2 c := by decide +kernel
theorem dev10_peer : ∀ c : Dev nD, (⟨k0_dev10 c, k0_dev10_lt c⟩ : Dev nD) = peer 1 2 c := by decide +kernel
theorem dev11_peer : ∀ c : Dev nD, (⟨k0_dev11 c, k0_dev11_lt c⟩ : Dev nD) = peer 0 3 c := by decide +kernel
theorem dev12_peer : ∀ c : Dev nD, (⟨k0_dev12 c, k0_dev12_lt c⟩ : Dev nD) = peer 1 3 c := by decide +kernel
theorem dev13_peer : ∀ c : Dev nD, (⟨k0_dev13 c, k0_dev13_lt c⟩ : Dev nD) = peer 0 3 c := by decide +kernel
theorem dev14_peer : ∀ c : Dev nD, (⟨k0_dev14 c, k0_dev14_lt c⟩ : Dev nD) = peer 1 3 c := by decide +kernel
theorem dev15_peer : ∀ c : Dev nD, (⟨k0_dev15 c, k0_dev15_lt c⟩ : Dev nD) = peer 0 2 c := by decide +kernel
theorem dev16_peer : ∀ c : Dev nD, (⟨k0_dev16 c, k0_dev16_lt c⟩ : Dev nD) = peer 1 2 c := by decide +kernel
theorem dev17_peer : ∀ c : Dev nD, (⟨k0_dev17 c, k0_dev17_lt c⟩ : Dev nD) = peer 0 1 c := by decide +kernel
theorem dev18_peer : ∀ c : Dev nD, (⟨k0_dev18 c, k0_dev18_lt c⟩ : Dev nD) = peer 1 1 c := by decide +kernel
theorem dev19_peer : ∀ c : Dev nD, (⟨k0_dev19 c, k0_dev19_lt c⟩ : Dev nD) = peer 0 0 c := by decide +kernel
theorem dev20_peer : ∀ c : Dev nD, (⟨k0_dev20 c, k0_dev20_lt c⟩ : Dev nD) = peer 1 0 c := by decide +kernel

/-! ## Levels -/

variable (P : Dev nD → Arr F) (K : GSem nD τ sig → ℕ) (c : Dev nD)

/-- A hop is over: both its counters are back at zero. -/
def done (h : Hop) (c : Dev nD) : sProp 𝕄 := iprop(semVal (sndCell h c) 0 ∗ semVal (rcvCell h c) 0)
/-- What a level of the reduction leaves: the landing area, and the partner's own block, to be gathered into. -/
def lent (P : Dev nD → Arr F) (s : Fin 2) (k : Fin 4) (c : Dev nD) : sProp 𝕄 :=
  iprop(rAt c (slot s k) (got P s k c) ∗ oAt (peer s k c) (blk s k c) (vv P s k.val (peer s k c)))
/-- The partner's gather semaphore of a level is ready. -/
def ready (s : Fin 2) (k : Fin 4) (c : Dev nD) : sProp 𝕄 := reached ER (rcvCell (1, s, k) (peer s k c)) 0

instance ready_persistent (s : Fin 2) (k : Fin 4) (c : Dev nD) : BI.Persistent (ready s k c : sProp 𝕄) := by unfold ready; infer_instance

/-- A level of the reduction, up to the waits and the addition. -/
theorem add_level {α : Type} (s : Fin 2) (k : Fin 4) (l : List Hop) (hl : ∀ h' ∈ l, rank (0, s, k) < rank h')
    {n : ℕ} {off offs : Fin 2 → ℕ} {inb inbs} {sp sp₁ sp₂ sp₃ : Space} {z z₁ z₂ z₃ : Shape} {e e₁ e₂ e₃ : EltTy} {κ κ' : Kind}
    {m₁ m₂ : DmaSem sig} {src₁ : Memref sig .tc sp z e} {dst₁ : Memref sig κ sp₁ z₁ e₁} {src₂ : Memref sig .tc sp₂ z₂ e₂} {dst₂ : Memref sig κ' sp₃ z₃ e₃}
    {hs₁ hd₁ hs₂ hd₂ ha hb ha' hst hst'}
    {w : Vec F (⟨2, ![n, 384]⟩ : Shape) .bf16 → Vec F (⟨2, ![n, 384]⟩ : Shape) .bf16 → FVec F (⟨2, ![n, 384]⟩ : Shape) .bf16}
    {kk : PUnit → Prog (TpuEff nD τ sig (Elt F) Λ₀ .tc) α} {Q : α → sProp 𝕄}
    (hn : n = ht k) (hoff : isBlk s k c off) (hoffs : isSlot s k offs) (h₁ : m₁ = sndS (0, s, k)) (h₂ : m₂ = rcvS (0, s, k))
    (hA₁ : dst₁.view.dmaCredit = amt k) (hA₂ : dst₂.view.dmaCredit = amt k) (hw : ∀ a b, w a b = addf a b) :
    ctx P K ⊢ iprop(flyS (0, s, k) c -∗ flyR (0, s, k) c -∗ oAt c (blk s k c) (vv P s k.val c) -∗ owe c l
      -∗ ((done (0, s, k) c ∗ lent P s k c ∗ oAt c (blk s k c) (vv P s (k.val + 1) c) ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
        (.op (.waitDma2 m₁ src₁ dst₁ hs₁ hd₁) fun _ => .op (.waitDma2 m₂ src₂ dst₂ hs₂ hd₂) fun _ =>
          .op (.load oM (Rect.unit (s := S1024x768) off (⟨2, ![n, 384]⟩ : Shape).size inb).toLoadRect ha) fun a => .op (.load rM (Rect.unit (s := S1024x768) offs (⟨2, ![n, 384]⟩ : Shape).size inbs).toLoadRect hb) fun b => .op (.load oM (Rect.unit (s := S1024x768) off (⟨2, ![n, 384]⟩ : Shape).size inb).toLoadRect ha') fun _ =>
          .op (.store oM (Rect.unit (s := S1024x768) off (⟨2, ![n, 384]⟩ : Shape).size inb) (w a b) Finset.univ hst hst') kk) Q) := by
  iintro #HI HS HR Ho HO HK
  iapply (wait_send P K c (0, s, k) l h₁ hA₁) $$ HI HS HO
  iintro ⟨-, Hv, HO⟩
  iapply (wait_recv P K c (0, s, k) l hl h₂ hA₂) $$ HI HR HO
  iintro ⟨Hp, Hv', HO⟩
  ihave Hp := (Entails.of_eq (rcvPay_reduce P c s k)) $$ Hp
  icases Hp with ⟨Hr, Hlent⟩
  iapply (load_blk c s k (vv P s k.val c) hn hoff) $$ Ho
  iintro Ho
  iapply (load_slot c s k (got P s k c) hn hoffs) $$ Hr
  iintro Hr
  iapply (load_blk c s k (vv P s k.val c) hn hoff) $$ Ho
  iintro Ho
  iapply (store_sum P c s k hn hoff hoffs (hw _ _)) $$ Ho
  iintro Ho
  iapply HK
  unfold done lent
  isplitl [Hv Hv']
  · isplitl [Hv] <;> iassumption
  isplitl [Hr Hlent]
  · isplitl [Hr] <;> iassumption
  isplitl [Ho] <;> iassumption

/-- The next level's start: the half of the block the partner keeps goes to it. -/
theorem next_level {α : Type} (s : Fin 2) (k k' : Fin 4) (hk : k'.val = k.val + 1) (l : List Hop)
    {c' : Dev nD} {n : ℕ} {off offs : Fin 2 → ℕ} {inb inbs hstr hstr' hsc} {sS sR : DmaSem sig} {hsrc hdst hsem}
    {kk : PUnit → Prog (TpuEff nD τ sig (Elt F) Λ₀ .tc) α} {Q : α → sProp 𝕄}
    (hn : n = ht k') (hc : c' = peer s k' c) (hoff : isBlk s k' (peer s k' c) off) (hoffs : isSlot s k' offs) (hS : sS = sndS (0, s, k')) (hR : sR = rcvS (0, s, k')) :
    ctx P K ⊢ iprop(oAt c (blk s k c) (vv P s (k.val + 1) c) -∗ armed (0, s, k') c -∗ gift (peer s k' c) s k' -∗ owe c ((0, s, k') :: l)
      -∗ ((ready s k' c ∗ flyS (0, s, k') c ∗ oAt c (blk s k' c) (vv P s k'.val c) ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma (oM.slice (Rect.unit (s := S1024x768) off (⟨2, ![n, 384]⟩ : Shape).size inb) hstr)
            (.remote (Dev.tc c') (rM.slice (Rect.unit (s := S1024x768) offs (⟨2, ![n, 384]⟩ : Shape).size inbs) hstr') (.dma sS) hsc) (.dma sR) hsrc hdst hsem) kk) Q) := by
  obtain ⟨hu, hd⟩ := blk_halves (s := s) hk c
  unfold gift ready
  iintro #HI Ho Ha ⟨⟨%f, Hr⟩, #Hr0, #Hr1⟩ HO HK
  rw [hu, ← hk]
  ihave Ho := (pointsTo_union hd).1 $$ Ho
  icases Ho with ⟨Ho, Hs⟩
  iapply (send_reduce P K c s k' l f hc hn hoff hoffs hS hR) $$ HI Ha Hs Hr Hr0 HO
  iintro ⟨HS, HO⟩
  iapply HK
  isplitr; · iexact Hr1
  isplitl [HS]; · iexact HS
  isplitl [Ho] <;> iassumption

theorem fin_at (s : Fin 2) : ∀ i ∈ blk s 3 c, vv P s 4 c i = fin P s i := by
  intro i hi
  have h := mem_box.mp hi
  have e : (i 0).val / 64 = row s 3 c / 64 := by
    have h3 : ht 3 = 64 := rfl
    have := row_dvd s c
    omega
  unfold fin
  rw [e, owner_row]

/-- The gather's first level: the finished sixteenth goes to the partner. -/
theorem first_gather {α : Type} (s : Fin 2) (l : List Hop) (f : Arr F)
    {c' : Dev nD} {n : ℕ} {off : Fin 2 → ℕ} {inb inb' hstr hstr' hsc} {sS sR : DmaSem sig} {hsrc hdst hsem}
    {kk : PUnit → Prog (TpuEff nD τ sig (Elt F) Λ₀ .tc) α} {Q : α → sProp 𝕄}
    (hn : n = ht 3) (hc : c' = peer s 3 c) (hoff : isBlk s 3 c off) (hS : sS = sndS (1, s, 3)) (hR : sR = rcvS (1, s, 3)) :
    ctx P K ⊢ iprop(oAt c (blk s 3 c) (vv P s 4 c) -∗ armed (1, s, 3) c -∗ oAt (peer s 3 c) (blk s 3 c) f -∗ ready s 3 c -∗ owe c ((1, s, 3) :: l)
      -∗ ((flyS (1, s, 3) c ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma (oM.slice (Rect.unit (s := S1024x768) off (⟨2, ![n, 384]⟩ : Shape).size inb) hstr)
            (.remote (Dev.tc c') (oM.slice (Rect.unit (s := S1024x768) off (⟨2, ![n, 384]⟩ : Shape).size inb') hstr') (.dma sS) hsc) (.dma sR) hsrc hdst hsem) kk) Q) := by
  unfold ready
  iintro #HI Ho Ha Hp #Hr HO HK
  ihave Ho := (Entails.of_eq (pointsTo_congr (fin_at P c s))) $$ Ho
  iapply (send_gather P K c s 3 l f hc hn hoff hS hR) $$ HI Ha Ho Hp Hr HO
  iexact HK

/-- The waits of a level of the gather: the own block and the partner's. -/
theorem gather_level {α : Type} (s : Fin 2) (k : Fin 4) (l : List Hop) (hl : ∀ h' ∈ l, rank (1, s, k) < rank h')
    {sp sp₁ sp₂ sp₃ : Space} {z z₁ z₂ z₃ : Shape} {e e₁ e₂ e₃ : EltTy} {κ κ' : Kind}
    {m₁ m₂ : DmaSem sig} {src₁ : Memref sig .tc sp z e} {dst₁ : Memref sig κ sp₁ z₁ e₁} {src₂ : Memref sig .tc sp₂ z₂ e₂} {dst₂ : Memref sig κ' sp₃ z₃ e₃}
    {hs₁ hd₁ hs₂ hd₂} {kk : PUnit → Prog (TpuEff nD τ sig (Elt F) Λ₀ .tc) α} {Q : α → sProp 𝕄}
    (h₁ : m₁ = sndS (1, s, k)) (h₂ : m₂ = rcvS (1, s, k)) (hA₁ : dst₁.view.dmaCredit = amt k) (hA₂ : dst₂.view.dmaCredit = amt k) :
    ctx P K ⊢ iprop(flyS (1, s, k) c -∗ flyR (1, s, k) c -∗ owe c l
      -∗ ((done (1, s, k) c ∗ oAt c (blk s k c) (fin P s) ∗ oAt c (blk s k (peer s k c)) (fin P s) ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 m₁ src₁ dst₁ hs₁ hd₁) fun _ => .op (.waitDma2 m₂ src₂ dst₂ hs₂ hd₂) kk) Q) := by
  iintro #HI HS HR HO HK
  iapply (wait_send P K c (1, s, k) l h₁ hA₁) $$ HI HS HO
  iintro ⟨Ho, Hv, HO⟩
  ihave Ho := (Entails.of_eq (sndPay_gather P c s k)) $$ Ho
  iapply (wait_recv P K c (1, s, k) l hl h₂ hA₂) $$ HI HR HO
  iintro ⟨Hp, Hv', HO⟩
  ihave Hp := (Entails.of_eq (rcvPay_gather P c s k)) $$ Hp
  iapply HK
  unfold done
  isplitl [Hv Hv']
  · isplitl [Hv] <;> iassumption
  isplitl [Ho]; · iexact Ho
  isplitl [Hp] <;> iassumption

/-- The next level of the gather: the block, now whole, goes to the level's partner. -/
theorem next_gather {α : Type} (s : Fin 2) (k k' : Fin 4) (hk : k.val = k'.val + 1) (l : List Hop) (f : Arr F)
    {c' : Dev nD} {n : ℕ} {off : Fin 2 → ℕ} {inb inb' hstr hstr' hsc} {sS sR : DmaSem sig} {hsrc hdst hsem}
    {kk : PUnit → Prog (TpuEff nD τ sig (Elt F) Λ₀ .tc) α} {Q : α → sProp 𝕄}
    (hn : n = ht k') (hc : c' = peer s k' c) (hoff : isBlk s k' c off) (hS : sS = sndS (1, s, k')) (hR : sR = rcvS (1, s, k')) :
    ctx P K ⊢ iprop(oAt c (blk s k c) (fin P s) -∗ oAt c (blk s k (peer s k c)) (fin P s) -∗ armed (1, s, k') c -∗ oAt (peer s k' c) (blk s k' c) f -∗ ready s k' c -∗ owe c ((1, s, k') :: l)
      -∗ ((flyS (1, s, k') c ∗ owe c l) -∗ wp frame (wpE (defs₀ (F := F)) 𝒱₀ (c : Thread nD τ) none) Set.univ (kk ⟨⟩) Q)
      -∗ wp frame (wpE (defs₀ (F := F)) 𝒱₀ (c : Thread nD τ) none) Set.univ
        (.op (.enqueueDma (oM.slice (Rect.unit (s := S1024x768) off (⟨2, ![n, 384]⟩ : Shape).size inb) hstr)
            (.remote (Dev.tc c') (oM.slice (Rect.unit (s := S1024x768) off (⟨2, ![n, 384]⟩ : Shape).size inb') hstr') (.dma sS) hsc) (.dma sR) hsrc hdst hsem) kk) Q) := by
  obtain ⟨hu, hd⟩ := blk_halves (s := s) hk c
  unfold ready
  iintro #HI Ho Ho' Ha Hp #Hr HO HK
  iapply (send_gather P K c s k' l f hc hn hoff hS hR) $$ HI Ha [Ho Ho'] Hp Hr HO
  · rw [hu]
    iapply (pointsTo_union hd).2
    isplitl [Ho] <;> iassumption
  iexact HK

end Cert.KernelIdeal.Net

end
-- ==== Proof.Batches.lean ====
/-
  One device's run of the kernel's body: the barrier, the two batches, the reduction and the gather.

  `body_run` takes the staged inputs, the device's own semaphores and what its partners' semaphores promise, and
  gives the output with each column half at its sum over the devices.
-/
module

public import proofs.«01_k».proof.Proof.Levels

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Arr F) (K : GSem nD τ sig → ℕ) (c : Dev nD)

/-! ## The landing area, slot by slot -/

theorem slots_disjoint (t : Fin 2 × Fin 4) (t' : Fin 2 × Fin 4) (h : t ≠ t') : Disjoint (slot t.1 t.2) (slot t'.1 t'.2) := by
  by_cases hs : t.1 = t'.1
  · have hk : t.2 ≠ t'.2 := fun e => h (Prod.ext hs e)
    rw [hs]
    refine box_disjoint ?_
    have : ∀ k k' : Fin 4, k ≠ k' → land k + ht k ≤ land k' ∨ land k' + ht k' ≤ land k := by decide
    exact this _ _ hk
  · exact box_disjoint_str hs

/-- The rows of the landing area no slot covers. -/
def spare : Finset Ix := Finset.univ \ Finset.univ.biUnion fun t : Fin 2 × Fin 4 => slot t.1 t.2

theorem land_split (f : Arr F) :
    rAt c Finset.univ f ⊢ iprop(bigSep Finset.univ (fun t : Fin 2 × Fin 4 => rAt c (slot t.1 t.2) f) ∗ rAt c spare f) := by
  have e : rAt c (Finset.univ.biUnion fun t : Fin 2 × Fin 4 => slot t.1 t.2) f = bigSep Finset.univ (fun t : Fin 2 × Fin 4 => rAt c (slot t.1 t.2) f) :=
    pointsTo_biUnion Finset.univ _ fun t _ t' _ h => slots_disjoint t t' h
  rw [← e]
  exact (pointsTo_split_subset (Finset.subset_univ _)).1

theorem land_join (fs : Fin 2 × Fin 4 → Arr F) (f : Arr F) :
    iprop(bigSep Finset.univ (fun t : Fin 2 × Fin 4 => rAt c (slot t.1 t.2) (fs t)) ∗ rAt c spare f) ⊢ (∃ g, rAt c Finset.univ g : sProp 𝕄) := by
  refine (sep_mono_left (pointsTo_biUnion_join (ℓ := rM.view.loc (c : Thread nD τ)) (q := fullShare) Finset.univ
    (fun t : Fin 2 × Fin 4 => (slot t.1 t.2 : Finset Ix)) fs f fun t _ t' _ h => slots_disjoint t t' h)).trans ?_
  iintro ⟨⟨%g, -, H⟩, Hf⟩
  iexists _
  iapply (pointsTo_join_subset (Finset.subset_univ (Finset.univ.biUnion fun t : Fin 2 × Fin 4 => slot t.1 t.2)))
  isplitl [H]; · iexact H
  iexact Hf

/-! ## The batches -/

/-- The batch a device runs first, and the other. -/
def first (c : Dev nD) : Fin 2 := if bit 0 c = 0 then 1 else 0
def second (c : Dev nD) : Fin 2 := if bit 0 c = 0 then 0 else 1

/-- The word the kernel's four conditions compare. -/
abbrev place (c : Dev nD) : BitVec 32 := Scalar.select (Scalar.ori (Scalar.cmpi .eq (Scalar.remsi (Scalar.remsi (Scalar.divsi c.word 1#32) 16#32) 4#32) 1#32)
  (Scalar.cmpi .eq (Scalar.remsi (Scalar.remsi (Scalar.divsi c.word 1#32) 16#32) 4#32) 2#32)) 1#32 0#32
abbrev placeIs (c : Dev nD) (b : BitVec 32) : BitVec 1 := Scalar.cmpi .ne (Scalar.extui (Scalar.cmpi .eq (place c) b) : BitVec 32) 0#32

theorem placeIs_zero : ∀ c : Dev nD, (placeIs c 0#32 = 1#1 → first c = 1 ∧ second c = 0) ∧ (placeIs c 0#32 ≠ 1#1 → bit 0 c ≠ 0) := by decide +kernel
theorem placeIs_one : ∀ c : Dev nD, (placeIs c 1#32 = 1#1 → first c = 0 ∧ second c = 1) ∧ (placeIs c 1#32 ≠ 1#1 → bit 0 c = 0) := by decide +kernel
theorem rows_of : ∀ c : Dev nD, row 0 0 c = 512 * (second c).val ∧ row 0 0 (peer 0 0 c) = 512 * (first c).val ∧ first c ≠ second c := by decide +kernel

/-- A batch's rows of the output, at the batch's value once `p` holds. -/
def half (P : Dev nD → Arr F) (c : Dev nD) (b : Fin 2) (p : Prop) : sProp 𝕄 := iprop(∃ f, ⌜p → f = P c⌝ ∗ oAt c (rows b) f)

/-- The second copy of each batch's text is the first. -/
theorem part15_eq : k0_part15 (F := F) = k0_part8 (F := F) := rfl
theorem part16_eq : k0_part16 (F := F) = k0_part9 (F := F) := rfl
theorem part17_eq : k0_part17 (F := F) = k0_part10 (F := F) := rfl
theorem part18_eq : k0_part18 (F := F) = k0_part11 (F := F) := rfl
theorem part19_eq : k0_part19 (F := F) = k0_part12 (F := F) := rfl
theorem part20_eq : k0_part20 (F := F) = k0_part13 (F := F) := rfl
theorem part21_eq : k0_part21 (F := F) = k0_part14 (F := F) := rfl
theorem part22_eq : k0_part22 (F := F) = k0_part1 (F := F) := rfl
theorem part23_eq : k0_part23 (F := F) = k0_part2 (F := F) := rfl
theorem part24_eq : k0_part24 (F := F) = k0_part3 (F := F) := rfl
theorem part25_eq : k0_part25 (F := F) = k0_part4 (F := F) := rfl
theorem part26_eq : k0_part26 (F := F) = k0_part5 (F := F) := rfl
theorem part27_eq : k0_part27 (F := F) = k0_part6 (F := F) := rfl
theorem part28_eq : k0_part28 (F := F) = k0_part7 (F := F) := rfl

/-- Batch 1 under a condition: its rows are done after it if they were done before wherever it does not run. -/
theorem run_one {α : Type} (v : BitVec 1) (b : Fin 2) {p p' : Prop} (h₁ : v = 1#1 → b = 1) (h₂ : v ≠ 1#1 → p' → p)
    (q k v' : Hd F) (w : Wb F) (hP : P c = part q k v' w) (kk : Prog (TpuEff nD τ sig (Elt F) Λ₀ .tc) α) (Q : α → sProp 𝕄) :
    inputs c q k v' w ⊢ iprop(accAny c -∗ half P c b p -∗ ((inputs c q k v' w ∗ accAny c ∗ half P c b p') -∗ wp frame (wpE (defs₀ (F := F)) 𝒱₀ (c : Thread nD τ) none) Set.univ kk Q)
      -∗ wp frame (wpE (defs₀ (F := F)) 𝒱₀ (c : Thread nD τ) none) Set.univ (if _h : v = 1#1 then do
      let ⟨v471, v473⟩ : Σ' (v471 : FVec F S512x64 .bf16), FVec F S512x64 .bf16 ← k0_part1 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part2 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part3 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part4 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part5 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part6 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part7 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      kk
        else kk) Q) := by
  unfold half
  iintro Hi Ha ⟨%f, %hf, Ho⟩ HK
  by_cases h : v = 1#1
  · rw [dif_pos h]
    have e : (do
      let ⟨v471, v473⟩ : Σ' (v471 : FVec F S512x64 .bf16), FVec F S512x64 .bf16 ← k0_part1 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part2 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part3 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part4 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part5 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part6 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part7 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      kk) = batchOneProg (F := F) >>= fun _ => kk := by
      simp only [batchOneProg, bind_assoc, pure_bind]
    rw [e, wp_bind]
    obtain rfl := h₁ h
    iapply (batchOne c q k v' w f _)
    isplitl [Hi]; · iexact Hi
    isplitl [Ha]; · iexact Ha
    isplitl [Ho]; · iexact Ho
    iintro ⟨Hi, Ha, Ho⟩
    iapply HK
    isplitl [Hi]; · iexact Hi
    isplitl [Ha]; · iexact Ha
    iexists (part q k v' w)
    isplitr; · ipureintro; exact fun _ => hP.symm
    iexact Ho
  · rw [dif_neg h]
    iapply HK
    isplitl [Hi]; · iexact Hi
    isplitl [Ha]; · iexact Ha
    iexists f
    isplitr; · ipureintro; exact fun hp => hf (h₂ h hp)
    iexact Ho

/-- Batch 0 under a condition: its rows are done after it if they were done before wherever it does not run. -/
theorem run_zero {α : Type} (v : BitVec 1) (b : Fin 2) {p p' : Prop} (h₁ : v = 1#1 → b = 0) (h₂ : v ≠ 1#1 → p' → p)
    (q k v' : Hd F) (w : Wb F) (hP : P c = part q k v' w) (kk : Prog (TpuEff nD τ sig (Elt F) Λ₀ .tc) α) (Q : α → sProp 𝕄) :
    inputs c q k v' w ⊢ iprop(accAny c -∗ half P c b p -∗ ((inputs c q k v' w ∗ accAny c ∗ half P c b p') -∗ wp frame (wpE (defs₀ (F := F)) 𝒱₀ (c : Thread nD τ) none) Set.univ kk Q)
      -∗ wp frame (wpE (defs₀ (F := F)) 𝒱₀ (c : Thread nD τ) none) Set.univ (if _h : v = 1#1 then do
      let ⟨v471, v473⟩ : Σ' (v471 : FVec F S512x64 .bf16), FVec F S512x64 .bf16 ← k0_part8 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part9 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part10 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part11 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part12 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part13 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part14 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      kk
        else kk) Q) := by
  unfold half
  iintro Hi Ha ⟨%f, %hf, Ho⟩ HK
  by_cases h : v = 1#1
  · rw [dif_pos h]
    have e : (do
      let ⟨v471, v473⟩ : Σ' (v471 : FVec F S512x64 .bf16), FVec F S512x64 .bf16 ← k0_part8 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      let ⟨v502, v503⟩ : Σ' (v502 : FVec F S512x64 .bf16), FVec F S512x512 .f32 ← k0_part9 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v471 v473
      let ⟨v529, v535⟩ : Σ' (v529 : FVec F S512x64 .bf16), FVec F S512x512 .f32 ← k0_part10 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v502 v503
      let v569 : FVec F S512x64 .bf16 ← k0_part11 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v529 v535
      let v599 : FVec F S512x768 .f32 ← k0_part12 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v569
      k0_part13 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69 v599
      k0_part14 qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5 k0_pay69
      kk) = batchZeroProg (F := F) >>= fun _ => kk := by
      simp only [batchZeroProg, bind_assoc, pure_bind]
    rw [e, wp_bind]
    obtain rfl := h₁ h
    iapply (batchZero c q k v' w f _)
    isplitl [Hi]; · iexact Hi
    isplitl [Ha]; · iexact Ha
    isplitl [Ho]; · iexact Ho
    iintro ⟨Hi, Ha, Ho⟩
    iapply HK
    isplitl [Hi]; · iexact Hi
    isplitl [Ha]; · iexact Ha
    iexists (part q k v' w)
    isplitr; · ipureintro; exact fun _ => hP.symm
    iexact Ho
  · rw [dif_neg h]
    iapply HK
    isplitl [Hi]; · iexact Hi
    isplitl [Ha]; · iexact Ha
    iexists f
    isplitr; · ipureintro; exact fun hp => hf (h₂ h hp)
    iexact Ho

end Cert.KernelIdeal.Net

end
-- ==== Proof.Body.lean ====
/-
  One device's run of the kernel's body: the barrier, the two batches, the reduction and the gather.

  `body_run` takes the staged inputs, the device's own semaphores and what its partners' semaphores promise, and
  gives the output with each column half at its sum over the devices.
-/
module

public import proofs.«01_k».proof.Proof.Batches
public import Idealize.ShloMosaic.Lib.Pipeline.Value

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Arr F) (K : GSem nD τ sig → ℕ) (c : Dev nD)

/-! ## The hops yet to start -/

abbrev l16 : List Hop := []
abbrev l15 : List Hop := (1, 1, 0) :: l16
abbrev l14 : List Hop := (1, 0, 0) :: l15
abbrev l13 : List Hop := (1, 1, 1) :: l14
abbrev l12 : List Hop := (1, 0, 1) :: l13
abbrev l11 : List Hop := (1, 1, 2) :: l12
abbrev l10 : List Hop := (1, 0, 2) :: l11
abbrev l9 : List Hop := (1, 1, 3) :: l10
abbrev l8 : List Hop := (1, 0, 3) :: l9
abbrev l7 : List Hop := (0, 1, 3) :: l8
abbrev l6 : List Hop := (0, 0, 3) :: l7
abbrev l5 : List Hop := (0, 1, 2) :: l6
abbrev l4 : List Hop := (0, 0, 2) :: l5
abbrev l3 : List Hop := (0, 1, 1) :: l4
abbrev l2 : List Hop := (0, 0, 1) :: l3
abbrev l1 : List Hop := (0, 1, 0) :: l2
abbrev l0 : List Hop := (0, 0, 0) :: l1

theorem hops_eq (Φ : Hop → sProp 𝕄) : bigSep Finset.univ Φ = iprop(Φ (0, 0, 0) ∗ Φ (0, 1, 0) ∗ Φ (0, 0, 1) ∗ Φ (0, 1, 1) ∗ Φ (0, 0, 2) ∗ Φ (0, 1, 2) ∗ Φ (0, 0, 3) ∗ Φ (0, 1, 3) ∗ Φ (1, 0, 3) ∗ Φ (1, 1, 3) ∗ Φ (1, 0, 2) ∗ Φ (1, 1, 2) ∗ Φ (1, 0, 1) ∗ Φ (1, 1, 1) ∗ Φ (1, 0, 0) ∗ Φ (1, 1, 0)) :=
  (bigSep_univ_eq_bigSepL [(0, 0, 0), (0, 1, 0), (0, 0, 1), (0, 1, 1), (0, 0, 2), (0, 1, 2), (0, 0, 3), (0, 1, 3), (1, 0, 3), (1, 1, 3), (1, 0, 2), (1, 1, 2), (1, 0, 1), (1, 1, 1), (1, 0, 0), (1, 1, 0)] (by decide +kernel) (by decide +kernel) Φ).trans rfl

theorem slots_eq (Φ : Fin 2 × Fin 4 → sProp 𝕄) : bigSep Finset.univ Φ = iprop(Φ (0, 0) ∗ Φ (1, 0) ∗ Φ (0, 1) ∗ Φ (1, 1) ∗ Φ (0, 2) ∗ Φ (1, 2) ∗ Φ (0, 3) ∗ Φ (1, 3)) :=
  bigSep_univ_eq_bigSepL [(0, 0), (1, 0), (0, 1), (1, 1), (0, 2), (1, 2), (0, 3), (1, 3)] (by decide) (by decide) Φ

theorem flips_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## What the body takes and gives -/

/-- A device's own semaphores, its barrier's and its partners' duties, and what it owes. -/
def talk (c : Dev nD) : sProp 𝕄 :=
  iprop((atPos ER (barCell c) 0 ∅ 0 ∗ cred (tallyAt (barCell c) () 4))
    ∗ bigSep Finset.univ (fun i : Fin 4 => iprop(dutyTok ER (barCell (flip i c)) 0 i ∗ reached ER (barCell (flip i c)) 0))
    ∗ bigSep Finset.univ (fun h : Hop => armed h c) ∗ bigSep Finset.univ (fun h : Hop => flyR h c)
    ∗ bigSep Finset.univ (fun h : Hop => reached ER (rcvCell h c) 0) ∗ oweB c [0, 1, 2, 3])

/-- All of them over. -/
def quiet (c : Dev nD) : sProp 𝕄 := iprop(semVal (barCell c) 0 ∗ bigSep Finset.univ (fun h : Hop => done h c) ∗ owe c [])

/-- The output: each column half at its sum over the devices. -/
def total (P : Dev nD → Arr F) : Arr F := fun i => if (i 1).val < 384 then fin P 0 i else fin P 1 i

theorem total_left (i : Ix) (h : i ∈ box 0 0 1024) : fin P 0 i = total P i := by
  have h := mem_box.mp h
  simp only [Fin.val_zero] at h
  exact (if_pos (by omega)).symm
theorem total_right (i : Ix) (h : i ∈ box 1 0 1024) : fin P 1 i = total P i := by
  have h := mem_box.mp h
  simp only [Fin.val_one] at h
  exact (if_neg (by omega)).symm

/-- The two batches' rows are all of the output. -/
theorem univ_rows {b b' : Fin 2} (h : b ≠ b') : (Finset.univ : Finset Ix) = rows b ∪ rows b' := by
  ext i
  have h0 : (i 0).val < 1024 := (i 0).isLt; have h1 : (i 1).val < 768 := (i 1).isLt
  have := b.isLt; have := b'.isLt; have : b.val ≠ b'.val := fun e => h (Fin.ext e)
  simp only [rows, Finset.mem_univ, Finset.mem_union, mem_box, true_iff, Fin.val_zero, Fin.val_one]
  omega
theorem rows_disjoint {b b' : Fin 2} (h : b ≠ b') : Disjoint (rows b) (rows b') := by
  rw [Finset.disjoint_left]; intro i
  have := b.isLt; have := b'.isLt; have : b.val ≠ b'.val := fun e => h (Fin.ext e)
  simp only [rows, Finset.mem_union, mem_box, Fin.val_zero, Fin.val_one]
  omega

theorem strips_disjoint (b : Fin 2) : Disjoint (box 0 (512 * b.val) 512) (box 1 (512 * b.val) 512) := box_disjoint_str (by decide)
theorem rows_split (c : Dev nD) (b : Fin 2) (f : Arr F) :
    (oAt c (rows b) f : sProp 𝕄) ⊢ oAt c (box 0 (512 * b.val) 512) f ∗ oAt c (box 1 (512 * b.val) 512) f :=
  (pointsTo_union (strips_disjoint b)).1
theorem strip_blk {b : Fin 2} {c' : Dev nD} (h : row 0 0 c' = 512 * b.val) : box 0 (512 * b.val) 512 = blk 0 0 c' := by rw [blk, h]; rfl
theorem strip_start (P : Dev nD → Arr F) (c : Dev nD) {b : Fin 2} {c' : Dev nD} (h : row 0 0 c' = 512 * b.val) :
    (oAt c (box 0 (512 * b.val) 512) (P c) : sProp 𝕄) = oAt c (blk 0 0 c') (vv P 0 (0 : Fin 4).val c) := by
  rw [strip_blk h]; rfl
theorem right_join {b b' : Fin 2} (h : b ≠ b') : box 1 0 1024 = box 1 (512 * b.val) 512 ∪ box 1 (512 * b'.val) 512
    ∧ Disjoint (box 1 (512 * b.val) 512) (box 1 (512 * b'.val) 512) := by
  have := b.isLt; have := b'.isLt; have : b.val ≠ b'.val := fun e => h (Fin.ext e)
  refine ⟨?_, box_disjoint (by omega)⟩
  ext i
  simp only [Finset.mem_union, mem_box, Fin.val_one]
  omega

theorem right_start (P : Dev nD → Arr F) (c : Dev nD) {b b' : Fin 2} (h : b ≠ b') :
    iprop(oAt c (box 1 (512 * b.val) 512) (P c) ∗ oAt c (box 1 (512 * b'.val) 512) (P c)) ⊢
      (iprop(oAt c (blk 1 0 c) (vv P 1 (0 : Fin 4).val c) ∗ oAt c (blk 1 0 (peer 1 0 c)) (vv P 1 (0 : Fin 4).val c)) : sProp 𝕄) := by
  refine (pointsTo_union (right_join h).2).2.trans ?_
  rw [← (right_join h).1, (col_halves 1 c).1]
  exact (pointsTo_union (col_halves 1 c).2).1

theorem gift_open (c : Dev nD) (s : Fin 2) (k : Fin 4) :
    (gift (peer s k c) s k : sProp 𝕄) ⊢ iprop((∃ f, rAt (peer s k c) (slot s k) f) ∗ reached ER (rcvCell (0, s, k) (peer s k c)) 0 ∗ ready s k c) :=
  Entails.of_eq rfl

theorem lent_open (P : Dev nD → Arr F) (c : Dev nD) (s : Fin 2) (k : Fin 4) :
    (lent P s k c : sProp 𝕄) ⊢ iprop(rAt c (slot s k) (got P s k c) ∗ oAt (peer s k c) (blk s k c) (vv P s k.val (peer s k c))) :=
  Entails.of_eq rfl

/-- The two halves of each column half, at its sum, are the output. -/
theorem sum_join (P : Dev nD → Arr F) (c : Dev nD) :
    iprop((oAt c (blk 0 0 c) (fin P 0) ∗ oAt c (blk 0 0 (peer 0 0 c)) (fin P 0))
        ∗ oAt c (blk 1 0 c) (fin P 1) ∗ oAt c (blk 1 0 (peer 1 0 c)) (fin P 1)) ⊢
      (oAt c Finset.univ (total P) : sProp 𝕄) := by
  have hd : Disjoint (box 0 0 1024) (box 1 0 1024) := box_disjoint_str (by decide)
  have e0 : iprop(oAt c (blk 0 0 c) (fin P 0) ∗ oAt c (blk 0 0 (peer 0 0 c)) (fin P 0)) ⊢ (oAt c (box 0 0 1024) (total P) : sProp 𝕄) := by
    refine (pointsTo_union (col_halves 0 c).2).2.trans ?_
    rw [← (col_halves 0 c).1]; exact Entails.of_eq (pointsTo_congr fun i hi => total_left P i hi)
  have e1 : iprop(oAt c (blk 1 0 c) (fin P 1) ∗ oAt c (blk 1 0 (peer 1 0 c)) (fin P 1)) ⊢ (oAt c (box 1 0 1024) (total P) : sProp 𝕄) := by
    refine (pointsTo_union (col_halves 1 c).2).2.trans ?_
    rw [← (col_halves 1 c).1]; exact Entails.of_eq (pointsTo_congr fun i hi => total_right P i hi)
  have e2 : iprop(oAt c (box 0 0 1024) (total P) ∗ oAt c (box 1 0 1024) (total P)) ⊢ (oAt c Finset.univ (total P) : sProp 𝕄) := by
    rw [univ_cols]; exact (pointsTo_union hd).2
  exact (BIClass.sep_mono e0 e1).trans e2

theorem top_level (P : Dev nD → Arr F) (c : Dev nD) (s : Fin 2) :
    (oAt c (blk s 3 c) (vv P s ((3 : Fin 4).val + 1) c) : sProp 𝕄) ⊢ oAt c (blk s 3 c) (vv P s 4 c) := Entails.of_eq rfl

theorem hops_list : hops = l0 := rfl

theorem half_start (b : Fin 2) (f : Arr F) : oAt c (rows b) f ⊢ (half P c b False : sProp 𝕄) := by
  unfold half
  iintro H
  iexists f
  isplitr; · ipureintro; exact fun h => h.elim
  iexact H
theorem half_done (b : Fin 2) : half P c b True ⊢ (oAt c (rows b) (P c) : sProp 𝕄) := by
  unfold half
  iintro ⟨%f, %hf, H⟩
  rw [← hf trivial]
  iexact H

theorem own_gifts (f : Arr F) :
    iprop(bigSep Finset.univ (fun t : Fin 2 × Fin 4 => rAt c (slot t.1 t.2) f) ∗ bigSep Finset.univ (fun h : Hop => reached ER (rcvCell h c) 0))
      ⊢ iprop((gift c 0 (lvl 0 0) ∗ gift c 1 (lvl 1 0)) ∗ (gift c 0 (lvl 0 1) ∗ gift c 1 (lvl 1 1))
        ∗ (gift c 0 (lvl 0 2) ∗ gift c 1 (lvl 1 2)) ∗ (gift c 0 (lvl 0 3) ∗ gift c 1 (lvl 1 3)) : sProp 𝕄) := by
  have one : ∀ (s : Fin 2) (k : Fin 4), iprop(bigSep Finset.univ (fun h : Hop => reached ER (rcvCell h c) 0))
      ⊢ iprop(rAt c (slot s k) f -∗ gift c s k : sProp 𝕄) := fun s k => by
    unfold gift
    have e : ∀ h : Hop, bigSep Finset.univ (fun h : Hop => reached ER (rcvCell h c) 0) ⊢ (reached ER (rcvCell h c) 0 : sProp 𝕄) :=
      fun h => bigSep_elim (Finset.mem_univ h)
    iintro #H Hr
    isplitl [Hr]; · iexists f; iexact Hr
    isplitr
    · iapply (e (0, s, k)) $$ H
    · iapply (e (1, s, k)) $$ H
  iintro ⟨H, #HR⟩
  ihave H := (Entails.of_eq (slots_eq _)) $$ H
  icases H with ⟨A0, B0, A1, B1, A2, B2, A3, B3⟩
  isplitl [A0 B2]
  · isplitl [A0]; · iapply (one 0 0) $$ HR A0
    iapply (one 1 2) $$ HR B2
  isplitl [A1 B3]
  · isplitl [A1]; · iapply (one 0 1) $$ HR A1
    iapply (one 1 3) $$ HR B3
  isplitl [A2 B0]
  · isplitl [A2]; · iapply (one 0 2) $$ HR A2
    iapply (one 1 0) $$ HR B0
  isplitl [A3]; · iapply (one 0 3) $$ HR A3
  iapply (one 1 1) $$ HR B1

/-! ## The run -/

set_option maxHeartbeats 8000000 in
theorem body_run (q k v : Hd F) (w : Wb F) (hP : P c = part q k v w) (Q : PUnit → sProp 𝕄) :
    iprop(ctx P K ∗ talk c ∗ inputs c q k v w ∗ accAny c ∗ (∃ f, oAt c Finset.univ f) ∗ (∃ f, rAt c Finset.univ f)
        ∗ ((quiet c ∗ inputs c q k v w ∗ accAny c ∗ oAt c Finset.univ (total P) ∗ (∃ f, rAt c Finset.univ f)) -∗ Q ⟨⟩))
      ⊢ wp frame (wpE (defs₀ (F := F)) 𝒱₀ (c : Thread nD τ) none) Set.univ (cc0_body qM (Memref.isWhole_whole _) kM (Memref.isWhole_whole _) vM (Memref.isWhole_whole _) wM (Memref.isWhole_whole _) oM (Memref.isWhole_whole _)
        aM (Memref.isWhole_whole _) rM (Memref.isWhole_whole _) cc0_scratch2 cc0_scratch3 cc0_scratch4 cc0_scratch5) Q := by
  unfold talk quiet
  iintro ⟨#HI, ⟨⟨HatB, HcB⟩, HD, HA, HF, #HR, HO⟩, Hi, Ha, ⟨%f, Ho⟩, ⟨%f', Hr⟩, HK⟩
  ihave HD := (Entails.of_eq (flips_eq _)) $$ HD
  icases HD with ⟨⟨D0, #R0⟩, ⟨D1, #R1⟩, ⟨D2, #R2⟩, ⟨D3, #R3⟩⟩
  ihave HA := (Entails.of_eq (hops_eq _)) $$ HA
  icases HA with ⟨ARA0, ARB0, ARA1, ARB1, ARA2, ARB2, ARA3, ARB3, AGA3, AGB3, AGA2, AGB2, AGA1, AGB1, AGA0, AGB0⟩
  ihave HF := (Entails.of_eq (hops_eq _)) $$ HF
  icases HF with ⟨FRA0, FRB0, FRA1, FRB1, FRA2, FRB2, FRA3, FRB3, FGA3, FGB3, FGA2, FGB2, FGA1, FGB1, FGA0, FGB0⟩
  ihave Hr := (land_split c f') $$ Hr
  icases Hr with ⟨Hr, Hspare⟩
  ihave Hg := (own_gifts c f') $$ [Hr]
  · isplitl [Hr]; · iexact Hr
    iexact HR
  icases Hg with ⟨E0, E1, E2, E3⟩
  -- the barrier's signals
  rw [cc0_body_eq_skeleton]
  unfold cc0_body_skel
  rw [k0_part29_eq_skeleton]
  simp only [k0_part29_skel, Prog.lift, Prog.bind_op, Prog.bind_ret, semSignalWord, Prog.pure_eq_ret]
  simp only [wp_deviceId]
  iapply (signal_flip P K c 0 [1, 2, 3] (dev1_flip c)) $$ HI D0 R0 E0 HO
  iintro HO
  iapply (signal_flip P K c 1 [2, 3] (dev2_flip c)) $$ HI D1 R1 E1 HO
  iintro HO
  iapply (signal_flip P K c 2 [3] (dev3_flip c)) $$ HI D2 R2 E2 HO
  iintro HO
  iapply (signal_flip P K c 3 [] (dev4_flip c)) $$ HI D3 R3 E3 HO
  iintro HO
  -- the first batch
  obtain ⟨hr2, hr1, hne⟩ := rows_of c
  ihave Ho := (Entails.of_eq (congrArg (fun S : Finset Ix => (oAt c S f : sProp 𝕄)) (univ_rows hne))) $$ Ho
  ihave Ho := (pointsTo_union (rows_disjoint hne)).1 $$ Ho
  icases Ho with ⟨Ho, Ho'⟩
  rw [k0_part30_eq_skeleton]
  unfold k0_part30_skel
  rw [wp_bind]
  ihave Ho := (half_start P c (first c) f) $$ Ho
  ihave Ho' := (half_start P c (second c) f) $$ Ho'
  iapply (run_one P c (placeIs c 0#32) (first c) (p := False) (p' := bit 0 c = 0) (fun h => ((placeIs_zero c).1 h).1)
    (fun h hb => (placeIs_zero c).2 h hb) q k v w hP) $$ Hi Ha Ho
  iintro ⟨Hi, Ha, Ho⟩
  iapply (run_zero P c (placeIs c 1#32) (first c) (p := bit 0 c = 0) (p' := True) (fun h => ((placeIs_one c).1 h).1)
    (fun h _ => (placeIs_one c).2 h) q k v w hP) $$ Hi Ha Ho
  iintro ⟨Hi, Ha, Ho⟩
  -- the barrier's wait, and the start of stream 0
  ihave Ho := (half_done P c (first c)) $$ Ho
  ihave Ho := (rows_split c (first c) _) $$ Ho
  icases Ho with ⟨HsA, HoB⟩
  simp only [Prog.lift, Prog.bind_op, Prog.bind_ret, semWaitWord, Prog.pure_eq_ret]
  iapply (wait_bar P K c) $$ HI HatB HcB HO
  iintro ⟨Hg, HvB, HO⟩
  ihave HO := (Entails.of_eq (congrArg (fun l => (owe c l : sProp 𝕄)) hops_list)) $$ HO
  ihave Hg := (Entails.of_eq (gifts_eq c)) $$ Hg
  icases Hg with ⟨GA0, GB2, GA1, GB3, GA2, GB0, GA3, GB1⟩
  ihave GA0 := (gift_open c 0 0) $$ GA0
  icases GA0 with ⟨⟨%g, GA0⟩, #T, #YA0⟩
  ihave HsA := (Entails.of_eq (strip_start P c hr1)) $$ HsA
  iapply (send_reduce P K c 0 0 l1 g (dev5_peer c) rfl (off1_blk c) slot0_0 rfl rfl) $$ HI ARA0 HsA GA0 T HO
  iintro ⟨SA0, HO⟩
  -- the second batch
  iapply (run_zero P c (placeIs c 0#32) (second c) (p := False) (p' := bit 0 c = 0) (fun h => ((placeIs_zero c).1 h).2)
    (fun h hb => (placeIs_zero c).2 h hb) q k v w hP) $$ Hi Ha Ho'
  iintro ⟨Hi, Ha, Ho'⟩
  iapply (le_wp_ret _ _)
  rw [k0_part31_eq_skeleton]
  unfold k0_part31_skel
  rw [wp_bind]
  iapply (run_one P c (placeIs c 1#32) (second c) (p := bit 0 c = 0) (p' := True) (fun h => ((placeIs_one c).1 h).2)
    (fun h _ => (placeIs_one c).2 h) q k v w hP) $$ Hi Ha Ho'
  iintro ⟨Hi, Ha, Ho'⟩
  ihave Ho' := (half_done P c (second c)) $$ Ho'
  ihave Ho' := (rows_split c (second c) _) $$ Ho'
  icases Ho' with ⟨OA, HoB'⟩
  ihave OA := (Entails.of_eq (strip_start P c hr2)) $$ OA
  ihave OB := (right_start P c hne) $$ [HoB HoB']
  · isplitl [HoB]; · iexact HoB
    iexact HoB'
  icases OB with ⟨OB, HsB⟩
  rw [← wp_bind]
  simp only [k0_part32_eq_skeleton, k0_part32_skel, k0_part33_eq_skeleton, k0_part33_skel, k0_part34_eq_skeleton, k0_part34_skel,
    k0_part35_eq_skeleton, k0_part35_skel, k0_part36_eq_skeleton, k0_part36_skel, k0_part37_eq_skeleton, k0_part37_skel,
    k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel,
    Prog.lift, Prog.bind_op, Prog.bind_ret, Prog.pure_eq_ret]
  -- the start of stream 1
  ihave GB0 := (gift_open c 1 0) $$ GB0
  icases GB0 with ⟨⟨%g, GB0⟩, #T, #YB0⟩
  iapply (send_reduce P K c 1 0 l2 g (dev6_peer c) rfl (off2_blk c) slot1_0 rfl rfl) $$ HI ARB0 HsB GB0 T HO
  iintro ⟨SB0, HO⟩
  -- stream 0, distance 0: the sum
  iapply (add_level P K c 0 0 l2 (by decide) rfl (off3_blk c) slot0_0 rfl rfl) $$ HI SA0 FRA0 OA HO
  · rfl
  · rfl
  · exact fun a b => congrArg (fun z => addf z b) (shapeCast_self a _)
  iintro ⟨DRA0, NA0, OA, HO⟩
  iapply (next_level P K c 0 0 1 rfl l3 rfl (dev7_peer c) (off4_blk c) slot0_1 rfl rfl) $$ HI OA ARA1 GA1 HO
  iintro ⟨#YA1, SA1, OA, HO⟩
  -- stream 1, distance 0: the sum
  iapply (add_level P K c 1 0 l3 (by decide) rfl (off5_blk c) slot1_0 rfl rfl) $$ HI SB0 FRB0 OB HO
  · rfl
  · rfl
  · exact fun a b => congrArg (fun z => addf z b) (shapeCast_self a _)
  iintro ⟨DRB0, NB0, OB, HO⟩
  iapply (next_level P K c 1 0 1 rfl l4 rfl (dev8_peer c) (off6_blk c) slot1_1 rfl rfl) $$ HI OB ARB1 GB1 HO
  iintro ⟨#YB1, SB1, OB, HO⟩
  -- stream 0, distance 1: the sum
  iapply (add_level P K c 0 1 l4 (by decide) rfl (off7_blk c) slot0_1 rfl rfl) $$ HI SA1 FRA1 OA HO
  · rfl
  · rfl
  · exact fun a b => congrArg (fun z => addf z b) (shapeCast_self a _)
  iintro ⟨DRA1, NA1, OA, HO⟩
  iapply (next_level P K c 0 1 2 rfl l5 rfl (dev9_peer c) (off8_blk c) slot0_2 rfl rfl) $$ HI OA ARA2 GA2 HO
  iintro ⟨#YA2, SA2, OA, HO⟩
  -- stream 1, distance 1: the sum
  iapply (add_level P K c 1 1 l5 (by decide) rfl (off9_blk c) slot1_1 rfl rfl) $$ HI SB1 FRB1 OB HO
  · rfl
  · rfl
  · exact fun a b => congrArg (fun z => addf z b) (shapeCast_self a _)
  iintro ⟨DRB1, NB1, OB, HO⟩
  iapply (next_level P K c 1 1 2 rfl l6 rfl (dev10_peer c) (off10_blk c) slot1_2 rfl rfl) $$ HI OB ARB2 GB2 HO
  iintro ⟨#YB2, SB2, OB, HO⟩
  -- stream 0, distance 2: the sum
  iapply (add_level P K c 0 2 l6 (by decide) rfl (off11_blk c) slot0_2 rfl rfl) $$ HI SA2 FRA2 OA HO
  · rfl
  · rfl
  · exact fun a b => congrArg (fun z => addf z b) (shapeCast_self a _)
  iintro ⟨DRA2, NA2, OA, HO⟩
  iapply (next_level P K c 0 2 3 rfl l7 rfl (dev11_peer c) (off12_blk c) slot0_3 rfl rfl) $$ HI OA ARA3 GA3 HO
  iintro ⟨#YA3, SA3, OA, HO⟩
  -- stream 1, distance 2: the sum
  iapply (add_level P K c 1 2 l7 (by decide) rfl (off13_blk c) slot1_2 rfl rfl) $$ HI SB2 FRB2 OB HO
  · rfl
  · rfl
  · exact fun a b => congrArg (fun z => addf z b) (shapeCast_self a _)
  iintro ⟨DRB2, NB2, OB, HO⟩
  iapply (next_level P K c 1 2 3 rfl l8 rfl (dev12_peer c) (off14_blk c) slot1_3 rfl rfl) $$ HI OB ARB3 GB3 HO
  iintro ⟨#YB3, SB3, OB, HO⟩
  -- stream 0, distance 3: the sum
  iapply (add_level P K c 0 3 l8 (by decide) rfl (off15_blk c) slot0_3 rfl rfl) $$ HI SA3 FRA3 OA HO
  · rfl
  · rfl
  · exact fun a b => congrArg (fun z => addf z b) (shapeCast_self a _)
  iintro ⟨DRA3, NA3, OA, HO⟩
  ihave NA3 := (lent_open P c 0 3) $$ NA3
  icases NA3 with ⟨VA3, UA3⟩
  ihave OA := (top_level P c 0) $$ OA
  iapply (first_gather P K c 0 l9 _ rfl (dev13_peer c) (off16_blk c) rfl rfl) $$ HI OA AGA3 UA3 YA3 HO
  iintro ⟨SA3, HO⟩
  -- stream 1, distance 3: the sum
  iapply (add_level P K c 1 3 l9 (by decide) rfl (off17_blk c) slot1_3 rfl rfl) $$ HI SB3 FRB3 OB HO
  · rfl
  · rfl
  · exact fun a b => congrArg (fun z => addf z b) (shapeCast_self a _)
  iintro ⟨DRB3, NB3, OB, HO⟩
  ihave NB3 := (lent_open P c 1 3) $$ NB3
  icases NB3 with ⟨VB3, UB3⟩
  ihave OB := (top_level P c 1) $$ OB
  iapply (first_gather P K c 1 l10 _ rfl (dev14_peer c) (off18_blk c) rfl rfl) $$ HI OB AGB3 UB3 YB3 HO
  iintro ⟨SB3, HO⟩
  -- stream 0, distance 3: the gather
  iapply (gather_level P K c 0 3 l10 (by decide) rfl rfl) $$ HI SA3 FGA3 HO
  · rfl
  · rfl
  iintro ⟨DGA3, OA, JA, HO⟩
  ihave NA2 := (lent_open P c 0 2) $$ NA2
  icases NA2 with ⟨VA2, UA2⟩
  iapply (next_gather P K c 0 3 2 rfl l11 _ rfl (dev15_peer c) (off19_blk c) rfl rfl) $$ HI OA JA AGA2 UA2 YA2 HO
  iintro ⟨SA2, HO⟩
  -- stream 1, distance 3: the gather
  iapply (gather_level P K c 1 3 l11 (by decide) rfl rfl) $$ HI SB3 FGB3 HO
  · rfl
  · rfl
  iintro ⟨DGB3, OB, JB, HO⟩
  ihave NB2 := (lent_open P c 1 2) $$ NB2
  icases NB2 with ⟨VB2, UB2⟩
  iapply (next_gather P K c 1 3 2 rfl l12 _ rfl (dev16_peer c) (off20_blk c) rfl rfl) $$ HI OB JB AGB2 UB2 YB2 HO
  iintro ⟨SB2, HO⟩
  -- stream 0, distance 2: the gather
  iapply (gather_level P K c 0 2 l12 (by decide) rfl rfl) $$ HI SA2 FGA2 HO
  · rfl
  · rfl
  iintro ⟨DGA2, OA, JA, HO⟩
  ihave NA1 := (lent_open P c 0 1) $$ NA1
  icases NA1 with ⟨VA1, UA1⟩
  iapply (next_gather P K c 0 2 1 rfl l13 _ rfl (dev17_peer c) (off21_blk c) rfl rfl) $$ HI OA JA AGA1 UA1 YA1 HO
  iintro ⟨SA1, HO⟩
  -- stream 1, distance 2: the gather
  iapply (gather_level P K c 1 2 l13 (by decide) rfl rfl) $$ HI SB2 FGB2 HO
  · rfl
  · rfl
  iintro ⟨DGB2, OB, JB, HO⟩
  ihave NB1 := (lent_open P c 1 1) $$ NB1
  icases NB1 with ⟨VB1, UB1⟩
  iapply (next_gather P K c 1 2 1 rfl l14 _ rfl (dev18_peer c) (off22_blk c) rfl rfl) $$ HI OB JB AGB1 UB1 YB1 HO
  iintro ⟨SB1, HO⟩
  -- stream 0, distance 1: the gather
  iapply (gather_level P K c 0 1 l14 (by decide) rfl rfl) $$ HI SA1 FGA1 HO
  · rfl
  · rfl
  iintro ⟨DGA1, OA, JA, HO⟩
  ihave NA0 := (lent_open P c 0 0) $$ NA0
  icases NA0 with ⟨VA0, UA0⟩
  iapply (next_gather P K c 0 1 0 rfl l15 _ rfl (dev19_peer c) (off23_blk c) rfl rfl) $$ HI OA JA AGA0 UA0 YA0 HO
  iintro ⟨SA0, HO⟩
  -- stream 1, distance 1: the gather
  iapply (gather_level P K c 1 1 l15 (by decide) rfl rfl) $$ HI SB1 FGB1 HO
  · rfl
  · rfl
  iintro ⟨DGB1, OB, JB, HO⟩
  ihave NB0 := (lent_open P c 1 0) $$ NB0
  icases NB0 with ⟨VB0, UB0⟩
  iapply (next_gather P K c 1 1 0 rfl l16 _ rfl (dev20_peer c) (off24_blk c) rfl rfl) $$ HI OB JB AGB0 UB0 YB0 HO
  iintro ⟨SB0, HO⟩
  -- stream 0, distance 0: the gather
  iapply (gather_level P K c 0 0 l16 (by decide) rfl rfl) $$ HI SA0 FGA0 HO
  · rfl
  · rfl
  iintro ⟨DGA0, OA, JA, HO⟩
  -- stream 1, distance 0: the gather
  iapply (gather_level P K c 1 0 l16 (by decide) rfl rfl) $$ HI SB0 FGB0 HO
  · rfl
  · rfl
  iintro ⟨DGB0, OB, JB, HO⟩
  -- what is left at the end
  iapply (le_wp_ret _ _)
  iapply HK
  ihave Ho := (sum_join P c) $$ [OA JA OB JB]
  · isplitl [OA JA]; · (isplitl [OA]; · iexact OA); iexact JA
    isplitl [OB]; · iexact OB
    iexact JB
  isplitl [HvB HO DRA0 DRB0 DRA1 DRB1 DRA2 DRB2 DRA3 DRB3 DGA3 DGB3 DGA2 DGB2 DGA1 DGB1 DGA0 DGB0]
  · isplitl [HvB]; · iexact HvB
    isplitr [HO]
    · iapply (Entails.of_eq (hops_eq (fun h : Hop => done h c)).symm)
      isplitl [DRA0]; · iexact DRA0
      isplitl [DRB0]; · iexact DRB0
      isplitl [DRA1]; · iexact DRA1
      isplitl [DRB1]; · iexact DRB1
      isplitl [DRA2]; · iexact DRA2
      isplitl [DRB2]; · iexact DRB2
      isplitl [DRA3]; · iexact DRA3
      isplitl [DRB3]; · iexact DRB3
      isplitl [DGA3]; · iexact DGA3
      isplitl [DGB3]; · iexact DGB3
      isplitl [DGA2]; · iexact DGA2
      isplitl [DGB2]; · iexact DGB2
      isplitl [DGA1]; · iexact DGA1
      isplitl [DGB1]; · iexact DGB1
      isplitl [DGA0]; · iexact DGA0
      iexact DGB0
    iexact HO
  isplitl [Hi]; · iexact Hi
  isplitl [Ha]; · iexact Ha
  isplitl [Ho]; · iexact Ho
  iapply (land_join c (fun t => got P t.1 t.2 c) f')
  isplitr [Hspare]
  · iapply (Entails.of_eq (slots_eq (fun t => rAt c (slot t.1 t.2) (got P t.1 t.2 c))).symm)
    isplitl [VA0]; · iexact VA0
    isplitl [VB0]; · iexact VB0
    isplitl [VA1]; · iexact VA1
    isplitl [VB1]; · iexact VB1
    isplitl [VA2]; · iexact VA2
    isplitl [VB2]; · iexact VB2
    isplitl [VA3]; · iexact VA3
    iexact VB3
  iexact Hspare

end Cert.KernelIdeal.Net

end
-- ==== Proof.Deal.lean ====
/-
  The launch of the exchange.

  Every cell's invariant is allocated at once; the tokens of the duties are dealt to the devices that pay them, and the
  launch credits to the devices that wait. A device opens its own send and receive cells when it has their counters in
  hand (`open_own`), and then holds what its run of the body takes.
-/
module

public import proofs.«01_k».proof.Proof.Body
public import Idealize.ShloMosaic.Harness.Basic

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F]

local notation "𝕄" => MT nD τ sig Unit (Elt F) ℕ UU ℕ

/-- An own semaphore's cell on a device. -/
abbrev ownCell (x : Hop × Fin 2) (c : Dev nD) : GSem nD τ sig := ((c : Thread nD τ), osem x)
/-- The device whose cell `x` device `c` pays: its own send cell, its partner's receive cell. -/
def payee (x : Hop × Fin 2) (c : Dev nD) : Dev nD := if x.2 = 0 then c else tgt x.1 c
theorem payee_payee (x : Hop × Fin 2) (c : Dev nD) : payee x (payee x c) = c := by
  unfold payee; split
  · rfl
  · exact peer_peer _ _ _

/-! ## The tokens -/

def barTok : Dev nD × Fin 4 ↪ GSem nD τ sig × ℕ × Fin 4 :=
  ⟨fun ci => (barCell ci.1, 0, ci.2), fun _ _ h =>
    Prod.ext (congrArg (fun t : GSem nD τ sig × ℕ × Fin 4 => t.1.1.1) h) (congrArg (fun t : GSem nD τ sig × ℕ × Fin 4 => t.2.2) h)⟩
def ownTok : Dev nD × (Hop × Fin 2) ↪ GSem nD τ sig × ℕ × Fin 4 :=
  ⟨fun cx => (ownCell cx.2 cx.1, 0, 0), fun _ _ h => scEmb.injective (congrArg Prod.fst h)⟩

/-- Every duty's token: a barrier's four, an own cell's one. -/
def allToks : Finset (GSem nD τ sig × ℕ × Fin 4) := Finset.univ.map barTok ∪ Finset.univ.map ownTok

theorem toks_disjoint : Disjoint ((Finset.univ : Finset (Dev nD × Fin 4)).map barTok) (Finset.univ.map ownTok) := by
  rw [Finset.disjoint_left]
  rintro t h₁ h₂
  obtain ⟨a, -, rfl⟩ := Finset.mem_map.mp h₁
  obtain ⟨b, -, h⟩ := Finset.mem_map.mp h₂
  exact osem_ne_bar b.2 (congrArg (fun t : GSem nD τ sig × ℕ × Fin 4 => t.1.2) h)

theorem cells_disjoint : Disjoint (barCells : Finset (GSem nD τ sig)) scCells := by
  rw [Finset.disjoint_left]
  rintro g h₁ h₂
  obtain ⟨c, -, rfl⟩ := Finset.mem_map.mp h₁
  obtain ⟨b, -, h⟩ := Finset.mem_map.mp h₂
  exact osem_ne_bar b.2 (congrArg Prod.snd h)

/-- Who pays whom is its own inverse. -/
def acrossBar : Dev nD × Fin 4 ≃ Dev nD × Fin 4 where
  toFun ci := (flip ci.2 ci.1, ci.2)
  invFun ci := (flip ci.2 ci.1, ci.2)
  left_inv ci := Prod.ext (flip_flip _ _) rfl
  right_inv ci := Prod.ext (flip_flip _ _) rfl
def acrossOwn : Dev nD × (Hop × Fin 2) ≃ Dev nD × (Hop × Fin 2) where
  toFun cx := (payee cx.2 cx.1, cx.2)
  invFun cx := (payee cx.2 cx.1, cx.2)
  left_inv cx := Prod.ext (payee_payee _ _) rfl
  right_inv cx := Prod.ext (payee_payee _ _) rfl

/-- The tokens dealt: each device has those of the duties it pays. -/
theorem deal_toks : (bigSep allToks (fun t => (dutyTok ER t.1 t.2.1 t.2.2 : sProp 𝕄)))
    = bigSep Finset.univ fun c : Dev nD => iprop((bigSep Finset.univ fun i : Fin 4 => dutyTok ER (barCell (flip i c)) 0 i)
        ∗ bigSep Finset.univ fun x : Hop × Fin 2 => dutyTok ER (ownCell x (payee x c)) 0 0) := by
  unfold allToks
  rw [bigSep_union toks_disjoint, bigSep_map, bigSep_map,
    bigSep_univ_equiv acrossBar (fun ci : Dev nD × Fin 4 => (dutyTok ER (barTok ci).1 (barTok ci).2.1 (barTok ci).2.2 : sProp 𝕄)),
    bigSep_univ_equiv acrossOwn (fun cx : Dev nD × (Hop × Fin 2) => (dutyTok ER (ownTok cx).1 (ownTok cx).2.1 (ownTok cx).2.2 : sProp 𝕄)),
    bigSep_univ_prod, bigSep_univ_prod, bigSep_sep']
  rfl

/-! ## The launch credits -/

theorem Ow_bar (d c : Dev nD) (l : List Hop) : Ow d l (barCell c) () = 0 := by
  by_contra h
  obtain ⟨h', -, e⟩ := Ow_pos d l (barCell c) () (Nat.pos_of_ne_zero h)
  exact absurd (congrArg Prod.snd e) (fun e => by cases e)

theorem bar_eq {c d : Dev nD} : barCell c = barCell d ↔ c = d :=
  ⟨fun h => barEmb.injective h, fun h => by rw [h]⟩
theorem rcv_eq {h h' : Hop} {c d : Dev nD} : rcvCell h c = rcvCell h' d ↔ c = d ∧ h = h' := by
  refine ⟨fun e => ?_, fun ⟨e, e'⟩ => by rw [e, e']⟩
  have := scEmb.injective (show scEmb (c, (h, (1 : Fin 2))) = scEmb (d, (h', (1 : Fin 2))) from e)
  exact ⟨congrArg Prod.fst this, congrArg (fun x : Dev nD × (Hop × Fin 2) => x.2.1) this⟩

theorem Ob_bar (d c : Dev nD) : ∀ l : List (Fin 4), Ob d l (barCell c) () = (l.map fun i => if c = flip i d then 1 else 0).sum
  | [] => Ow_bar d c hops
  | i :: l => by
    unfold Ob
    rw [Pi.add_apply, Finsupp.add_apply, Ob_bar d c l, tallyAt_apply, List.map_cons, List.sum_cons, Nat.add_comm]
    simp only [bar_eq, and_true]

theorem Ow_rcv (d c : Dev nD) (h : Hop) : ∀ l : List Hop, l.Nodup →
    Ow d l (rcvCell h c) () = if h ∈ l ∧ c = tgt h d then amt h.2.2 else 0
  | [], _ => by rw [if_neg (fun e => absurd e.1 List.not_mem_nil)]; rfl
  | h' :: l, hl => by
    obtain ⟨hn, hl⟩ := List.nodup_cons.mp hl
    unfold Ow
    rw [Pi.add_apply, Finsupp.add_apply, Ow_rcv d c h l hl, tallyAt_apply]
    simp only [rcv_eq, and_true]
    by_cases e : h = h'
    · subst e
      simp only [hn, false_and, if_false, and_true, List.mem_cons, true_or, true_and, Nat.zero_add]
    · simp only [e, and_false, if_false, List.mem_cons, false_or, Nat.add_zero]

theorem Ob_rcv (d c : Dev nD) (h : Hop) : ∀ l : List (Fin 4), Ob d l (rcvCell h c) () = Ow d hops (rcvCell h c) ()
  | [] => rfl
  | i :: l => by
    unfold Ob
    rw [Pi.add_apply, Finsupp.add_apply, Ob_rcv d c h l, tallyAt_ne_cell (fun e => by cases congrArg Prod.snd e),
      Finsupp.zero_apply, Nat.add_zero]

theorem hops_nodup : hops.Nodup := by decide
theorem mem_hops : ∀ h : Hop, h ∈ hops := by decide

theorem four_owe : ∀ c : Dev nD, (∑ d : Dev nD, (([0, 1, 2, 3] : List (Fin 4)).map fun i => if c = flip i d then 1 else 0).sum) = 4 := by
  decide +kernel

theorem credit_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => Ob_bar d c [0, 1, 2, 3]]
  exact four_owe c

theorem credit_rcv (h : Hop) (c : Dev nD) :
    tallyOn (rcvCell h c) (launchCredit (Pipeline.owing O₀) 0 (rcvCell h c)) = (tallyAt (rcvCell h c) () (amt h.2.2) : CellTallies nD τ sig Unit) := by
  unfold tallyAt; refine congrArg _ (Finsupp.ext fun u => ?_); cases u
  have e (d : Dev nD) : O₀ d (rcvCell h c) () = if d = tgt h c then amt h.2.2 else 0 := by
    rw [Ob_rcv, Ow_rcv d c h hops hops_nodup]
    refine if_congr ⟨fun ⟨_, e⟩ => ?_, fun e => ⟨mem_hops h, ?_⟩⟩ rfl rfl
    · rw [e]; exact (peer_peer _ _ _).symm
    · rw [e]; exact (peer_peer _ _ _).symm
  rw [Pipeline.launchCredit_owing, Finsupp.single_eq_same, Finset.sum_congr rfl fun d _ => e d,
    Finset.sum_ite_eq' Finset.univ (tgt h c) fun _ => amt h.2.2, if_pos (Finset.mem_univ _)]

theorem rcvS_inj {h h' : Hop} (e : (SemLoc.dma (rcvS h) : SemLoc sig) = .dma (rcvS h')) : h = h' := by
  have := SemLoc.dma.inj e
  rw [← hopOf_rcvS h, ← hopOf_rcvS h', this]

/-- What a device's cells are owed: its barrier four signals, each receive cell its copy. -/
theorem deal_creds (c : Dev nD) : (Pipeline.launchCred O₀ c : sProp 𝕄)
    ⊢ iprop(cred (tallyAt (barCell c) () 4) ∗ bigSep Finset.univ fun h : Hop => cred (tallyAt (rcvCell h c) () (amt h.2.2))) := by
  unfold Pipeline.launchCred
  rw [bigSep_univ_at _ (SemLoc.reg barS), credit_bar]
  refine sep_mono_right ?_
  have hsub : (Finset.univ.image fun h : Hop => (SemLoc.dma (rcvS h) : SemLoc sig)) ⊆ Finset.univ.erase (SemLoc.reg barS) := by
    intro sm hm
    obtain ⟨h, -, rfl⟩ := Finset.mem_image.mp hm
    exact Finset.mem_erase.mpr ⟨(fun e => by cases e), Finset.mem_univ _⟩
  refine (bigSep_subset hsub).trans ?_
  rw [bigSep_image_of_injOn (fun h _ h' _ e => rcvS_inj e)]
  exact Entails.of_eq (bigSep_congr fun h _ => by rw [credit_rcv])

/-! ## A device's cells opened -/

variable (P : Dev nD → Arr F)

/-- What every device may consult from launch. -/
def records (K : GSem nD τ sig → ℕ) : sProp 𝕄 := iprop(invs P K ∗ bigSep barCells fun g => reached ER g 0)
instance records_persistent (K : GSem nD τ sig → ℕ) : BI.Persistent (records P K) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What is dealt to device `c`. -/
def hand (c : Dev nD) : sProp 𝕄 :=
  iprop(atPos ER (barCell c) 0 ∅ 0 ∗ (bigSep Finset.univ fun x : Hop × Fin 2 => openTok ER (ownCell x c))
    ∗ (bigSep Finset.univ fun i : Fin 4 => dutyTok ER (barCell (flip i c)) 0 i)
    ∗ bigSep Finset.univ fun x : Hop × Fin 2 => dutyTok ER (ownCell x (payee x c)) 0 0)
def credits (c : Dev nD) : sProp 𝕄 :=
  iprop(cred (tallyAt (barCell c) () 4) ∗ bigSep Finset.univ fun h : Hop => cred (tallyAt (rcvCell h c) () (amt h.2.2)))

/-- A device's thread state up to the kernel, beside its buffers and its dues. -/
def sealed (c : Dev nD) : sProp 𝕄 := iprop((∃ K, records P K ∗ hand c) ∗ credits c)
/-- With its cells opened. -/
def ready' (c : Dev nD) : sProp 𝕄 := iprop(∃ K, ctx P K ∗ (oweB c [0, 1, 2, 3] -∗ talk c))

theorem own_mem (x : Hop × Fin 2) (c : Dev nD) : ownCell x c ∈ (barCells ∪ scCells : Finset (GSem nD τ sig)) :=
  Finset.mem_union_right _ (Finset.mem_map_of_mem scEmb (Finset.mem_univ (c, x)))

theorem open_cell (K : GSem nD τ sig → ℕ) (c : Dev nD) (x : Hop × Fin 2) :
    iprop(invs P K ∗ (openTok ER (ownCell x c) ∗ semVal (ownCell x c) 0))
      ⊢ (|={Set.univ}=> (iprop(atPos ER (ownCell x c) 0 ∅ 0 ∗ reached ER (ownCell x c) 0)) : sProp 𝕄) := by
  iintro ⟨#HI, Ho, Hv⟩
  iapply (Rounds.cell_open ER (Rd P) (g := ownCell x c) (Set.mem_univ (K (ownCell x c))))
  isplitr; · iapply (inv_at P K (own_mem x c)) $$ HI
  isplitl [Ho] <;> iassumption

theorem pairs_eq (Φ : Hop × Fin 2 → sProp 𝕄) :
    bigSep Finset.univ Φ = bigSep Finset.univ fun h : Hop => iprop(Φ (h, 0) ∗ Φ (h, 1)) := by
  rw [bigSep_univ_prod]
  exact bigSep_congr fun h _ => BI.bigSep_fin_two fun k : Fin 2 => Φ (h, k)

/-- One hop's send and receive cell, opened, with what is dealt for them. -/
theorem hop_open (c : Dev nD) (h : Hop) :
    (iprop(((atPos ER (ownCell (h, 0) c) 0 ∅ 0 ∗ reached ER (ownCell (h, 0) c) 0) ∗ atPos ER (ownCell (h, 1) c) 0 ∅ 0 ∗ reached ER (ownCell (h, 1) c) 0)
        ∗ (dutyTok ER (ownCell (h, 0) (payee (h, 0) c)) 0 0 ∗ dutyTok ER (ownCell (h, 1) (payee (h, 1) c)) 0 0)
        ∗ cred (tallyAt (rcvCell h c) () (amt h.2.2))) : sProp 𝕄)
      ⊢ iprop(armed h c ∗ flyR h c ∗ reached ER (rcvCell h c) 0) := by
  unfold armed flyR
  iintro ⟨⟨⟨HaS, HrS⟩, HaR, HrR⟩, ⟨HtS, HtR⟩, HC⟩
  isplitl [HaS HrS HtS HtR]
  · isplitl [HaS]; · iexact HaS
    isplitl [HrS]; · iexact HrS
    isplitl [HtS]; · iexact HtS
    iexact HtR
  isplitl [HaR HC]
  · isplitl [HaR]; · iexact HaR
    iexact HC
  iexact HrR

/-- With the counters of its own cells at zero, a device opens them, and holds what its run of the body takes. -/
theorem open_own (c : Dev nD) : iprop(sealed P c ∗ Pipeline.ownSems0 osem c ∗ levAts L lv) ⊢ (|={Set.univ}=> ready' P c : sProp 𝕄) := by
  unfold sealed records hand credits Pipeline.ownSems0
  iintro ⟨⟨⟨%K, ⟨#HI, #HR⟩, HatB, HoT, HtB, HtX⟩, HcB, HcR⟩, Hv, #Hlev⟩
  ihave HX := bigSep_pair $$ [HoT Hv]
  · isplitl [HoT]; · iexact HoT
    iexact Hv
  ihave HX := (bigSep_with_persistent (R := invs P K) fun x _ => open_cell P K c x) $$ [HX]
  · isplitr; · iexact HI
    iexact HX
  imod (bigSep_fupd _ _) $$ HX with HX
  imodintro
  unfold ready'
  iexists K
  isplitr
  · unfold ctx
    isplitr; · iexact HI
    iexact Hlev
  iintro HO
  ihave HX := (Entails.of_eq (pairs_eq _)) $$ HX
  ihave HtX := (Entails.of_eq (pairs_eq _)) $$ HtX
  ihave HZ := bigSep_pair $$ [HtX HcR]
  · isplitl [HtX]; · iexact HtX
    iexact HcR
  ihave HZ := bigSep_pair $$ [HX HZ]
  · isplitl [HX]; · iexact HX
    iexact HZ
  ihave HZ := (show _ ⊢ (bigSep Finset.univ fun h : Hop => iprop(armed h c ∗ flyR h c ∗ reached ER (rcvCell h c) 0) : sProp 𝕄) from
    bigSep_mono fun h _ => hop_open c h) $$ HZ
  ihave HZ := bigSep_unpair $$ HZ
  icases HZ with ⟨HA, HZ⟩
  ihave HZ := bigSep_unpair $$ HZ
  icases HZ with ⟨HF, Hre⟩
  ihave HtB := (bigSep_with_persistent (R := bigSep barCells fun g => (reached ER g 0 : sProp 𝕄))
    (Φ := fun i : Fin 4 => (dutyTok ER (barCell (flip i c)) 0 i : sProp 𝕄))
    (Ψ := fun i : Fin 4 => iprop(dutyTok ER (barCell (flip i c)) 0 i ∗ reached ER (barCell (flip i c)) 0)) fun i _ => by
      iintro ⟨#HR, Ht⟩
      isplitl [Ht]; · iexact Ht
      iapply (reached_at (F := F) (flip i c)) $$ HR) $$ [HtB]
  · isplitr; · iexact HR
    iexact HtB
  unfold talk
  isplitl [HatB HcB]
  · isplitl [HatB] <;> iassumption
  isplitl [HtB]; · iexact HtB
  isplitl [HA]; · iexact HA
  isplitl [HF]; · iexact HF
  isplitl [Hre]; · iexact Hre
  iexact HO

/-! ## The deal -/

/-- The launch's own element. -/
abbrev seed : URounds (GSem nD τ sig) (Fin 4) := launchOf barCells scCells allToks

theorem deal :
    iprop((bigSep Finset.univ fun c : Dev nD => iprop(semVal (barCell c) 0 ∗ Pipeline.launchCred O₀ c)) ∗ BI.own (ER seed))
      ⊢ (|={Set.univ}=> bigSep Finset.univ (sealed P) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun x : Hop × Fin 2 => (openTok ER (ownCell x c) : sProp 𝕄)) :=
    Entails.of_eq (by rw [bigSep_map, bigSep_univ_prod]; rfl)
  have hcr : bigSep Finset.univ (fun c : Dev nD => (Pipeline.launchCred O₀ c : sProp 𝕄)) ⊢ bigSep Finset.univ (fun c : Dev nD => credits c) :=
    bigSep_mono fun c _ => deal_creds c
  have hone (K : GSem nD τ sig → ℕ) (c : Dev nD) : iprop(records P K ∗ (hand c ∗ credits c)) ⊢ (sealed P c : sProp 𝕄) := by
    unfold sealed
    iintro ⟨#HR, Hh, Hc⟩
    isplitl [Hh]
    · iexists K
      isplitr; · iexact HR
      iexact Hh
    iexact Hc
  iintro ⟨H, Hu⟩
  ihave H := bigSep_unpair $$ H
  icases H with ⟨Hv, Hc⟩
  ihave Hv := hv $$ Hv
  ihave Hc := hcr $$ Hc
  imod (Rounds.fund_launch ER (Rd P) cells_disjoint (fun g _ h => h) allToks) $$ [Hv Hu] with ⟨%K, -, #Hinv, #Hr, Hat, Hopen, Htok⟩
  · isplitl [Hv] <;> iassumption
  ihave Hat := hat $$ Hat
  ihave Hopen := hopen $$ Hopen
  ihave Htok := (Entails.of_eq deal_toks) $$ Htok
  imodintro
  iapply (bigSep_with_persistent (R := records P K) (Φ := fun c => iprop(hand c ∗ credits c)) fun c _ => hone K c)
  isplitr
  · unfold records invs
    isplitr; · iexact Hinv
    iexact Hr
  iapply bigSep_pair
  isplitr [Hc]
  · unfold hand
    iapply bigSep_pair; isplitl [Hat]; · iexact Hat
    iapply bigSep_pair; isplitl [Hopen]; · iexact Hopen
    iexact Htok
  · iexact Hc

end Cert.KernelIdeal.Net

end
-- ==== Proof.Run.lean ====
/-
  The run of the whole program: the host's lines, the kernel on the sixteen devices, the host's last line.

  `run_main` says that from any memory every execution ends, with each argument as launched, every counter at zero, and
  the result the sum over the devices (`total`) of their partial outputs (`partOf`).
-/
module

public import proofs.«01_k».proof.Proof.Deal
public import proofs.«01_k».proof.Proof.Gen.KernelIdeal.Points
public import Idealize.ShloMosaic.Lib.Pipeline.RegionTalk
public import Idealize.ShloMosaic.Lib.Pipeline.ValueKit.Geometry

@[expose] public section

set_option maxRecDepth 100000

noncomputable section

namespace Cert.KernelIdeal.Net

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

abbrev qOf (c : Dev nD) : Hd F := V1 m c main_v8
abbrev kOf (c : Dev nD) : Hd F := V1 m c main_v19
abbrev vOf (c : Dev nD) : Hd F := V1 m c main_v20
abbrev wOf (c : Dev nD) : Wb F := V1 m c main_arg4
/-- Device `c`'s partial output. -/
def partOf (c : Dev nD) : Arr F := part (qOf m c) (kOf m c) (vOf m c) (wOf m c)

/-- What the kernel leaves in its result. -/
def outs : Outs (F := F) := fun _ r c =>
  (Function.update (V1 m c) (Proc.devRef .tc main_v21) (total (partOf m)) : Valuation τ sig (Elt F)) (Proc.devRef .tc r)
theorem outs_eq (c : Dev nD) : outs m 2 main_v21 c = total (partOf m) := Function.update_self ..

/-! ## The region's data -/

def Φin (c : Dev nD) : sProp 𝕄 :=
  iprop(ready' (partOf m) c ∗ accAny c ∗ (∃ f, rAt c Finset.univ f) ∗ ∃ r, prngReg c r)
def Φout (c : Dev nD) : sProp 𝕄 :=
  iprop(semVal (barCell c) 0 ∗ (bigSep Finset.univ fun h : Hop => done h c) ∗ accAny c ∗ (∃ f, rAt c Finset.univ f) ∗ ∃ r, prngReg c r)

def dat0 (c : Dev nD) : Dat τ (Elt F) Unit ℕ UU ℕ cfg0 c where
  A w := V1 m c (Pipeline.arrRef spec0 w)
  after w _ := match w with
    | ⟨0, _⟩ => qOf m c
    | ⟨1, _⟩ => kOf m c
    | ⟨2, _⟩ => vOf m c
    | ⟨3, _⟩ => wOf m c
    | ⟨4, _⟩ => total (partOf m)
  Φ t := if t.val = 0 then Φin m c else Φout c
  q _ := fullShare
  owed t := if t.val = 0 then O₀ c else 0

def pdats : (p : Fin 1) → (c : Dev nD) → Dat τ (Elt F) Unit ℕ UU ℕ (cfgs p) c
  | 0 => dat0 m

theorem before_0 (c : Dev nD) (d) : (dat0 m c).before 0 t0_0 d = qOf m c := by
  unfold Pipeline.Dat.before; rw [if_pos (fetch0_0 t0_0)]
  funext j
  unfold Pipeline.Dat.fetched Pipeline.Window.fill
  rw [dif_pos (((cfg0.win 0).moved_iff _ _).mpr fun a => (j a).isLt)]
  show (qOf m c) (((cfg0.win 0).rect t0_0).emb _) = _
  congr 1; funext a; apply Fin.ext
  rw [Pipeline.Window.rect_emb_val_of_index_zero _ _ _ rfl]

theorem before_1 (c : Dev nD) (d) : (dat0 m c).before 1 t0_0 d = kOf m c := by
  unfold Pipeline.Dat.before; rw [if_pos (fetch0_1 t0_0)]
  funext j
  unfold Pipeline.Dat.fetched Pipeline.Window.fill
  rw [dif_pos (((cfg0.win 1).moved_iff _ _).mpr fun a => (j a).isLt)]
  show (kOf m c) (((cfg0.win 1).rect t0_0).emb _) = _
  congr 1; funext a; apply Fin.ext
  rw [Pipeline.Window.rect_emb_val_of_index_zero _ _ _ rfl]

theorem before_2 (c : Dev nD) (d) : (dat0 m c).before 2 t0_0 d = vOf m c := by
  unfold Pipeline.Dat.before; rw [if_pos (fetch0_2 t0_0)]
  funext j
  unfold Pipeline.Dat.fetched Pipeline.Window.fill
  rw [dif_pos (((cfg0.win 2).moved_iff _ _).mpr fun a => (j a).isLt)]
  show (vOf m c) (((cfg0.win 2).rect t0_0).emb _) = _
  congr 1; funext a; apply Fin.ext
  rw [Pipeline.Window.rect_emb_val_of_index_zero _ _ _ rfl]

theorem before_3 (c : Dev nD) (d) : (dat0 m c).before 3 t0_0 d = wOf m c := by
  unfold Pipeline.Dat.before; rw [if_pos (fetch0_3 t0_0)]
  funext j
  unfold Pipeline.Dat.fetched Pipeline.Window.fill
  rw [dif_pos (((cfg0.win 3).moved_iff _ _).mpr fun a => (j a).isLt)]
  show (wOf m c) (((cfg0.win 3).rect t0_0).emb _) = _
  congr 1; funext a; apply Fin.ext
  rw [Pipeline.Window.rect_emb_val_of_index_zero _ _ _ rfl]

theorem arr_out (c : Dev nD) : (dat0 m c).arrAt 4 cfg0.N = total (partOf m) :=
  (dat0 m c).arrAt_eq_of_after_last 4 t0_0 (by decide +kernel) (total (partOf m)) fun j => rfl

theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Pipeline.Dat.owesAt Pipeline.owesWithin; rw [h]
  iintro ⟨%W, -, HO⟩; iexists W; iexact HO
theorem owes_in (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Pipeline.Dat.owesAt Pipeline.owesWithin Pipeline.Dat.bound; rw [h]
  iintro ⟨%W, HO⟩; iexists W; isplitr; · ipureintro; exact fun _ _ => Or.inl trivial
  iexact HO

theorem owed_first (c : Dev nD) : (pdats m 0 c).owed 0 = O₀ c := by
  show (if (0 : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem owed_before (c : Dev nD) : (dat0 m c).owed t0_0.castSucc = O₀ c := by
  show (if (t0_0.castSucc : Fin (cfg0.N + 1)).val = 0 then O₀ c else 0) = O₀ c; exact if_pos rfl
theorem owed_after (c : Dev nD) : (dat0 m c).owed t0_0.succ = 0 := by
  show (if (t0_0.succ : Fin (cfg0.N + 1)).val = 0 then O₀ c else 0) = 0; exact if_neg (by decide)

omit [FloatOps F] in
/-- A staging buffer at contents is its points-to. -/
theorem owns_out (c : Dev nD) (b : Ref sig .tc) (X : b.ty.Contents (Elt F)) :
    (owns (c : Thread nD τ) (Memref.whole b) fullShare X : sProp 𝕄) ⊢ ((Memref.whole b).view.loc (c : Thread nD τ) ↦{fullShare} X) := by
  unfold owns; simp only [Memref.view_whole, View.read_whole, View.set_whole]
  iintro ⟨%f, %hf, H⟩; subst hf; iexact H
omit [FloatOps F] in
theorem owns_in (c : Dev nD) (b : Ref sig .tc) (X : b.ty.Contents (Elt F)) :
    ((Memref.whole b).view.loc (c : Thread nD τ) ↦{fullShare} X) ⊢ (owns (c : Thread nD τ) (Memref.whole b) fullShare X : sProp 𝕄) := by
  unfold owns; simp only [Memref.view_whole, View.read_whole, View.set_whole]
  iintro H; iexists X; isplitr; · ipureintro; rfl
  iexact H

/-- The body's run, as the region asks it. -/
theorem body_ok (c : Dev nD) : BodyObligation (dat0 m c) (defs₀ (F := F)) 𝒱₀ () Set.univ := fun t => by
  obtain rfl := fin_N0 t
  rw [bigSep_W0, bigSep_W0]
  rw [show (dat0 m c).Φ t0_0.castSucc = Φin m c from rfl, show (dat0 m c).Φ t0_0.succ = Φout c from rfl]
  have hin : iprop((∃ d, owns (c : Thread nD τ) ((cfg0.win 0).stage (cfg0.slots t0_0 0)) fullShare ((dat0 m c).before 0 t0_0 d))
      ∗ (∃ d, owns (c : Thread nD τ) ((cfg0.win 1).stage (cfg0.slots t0_0 1)) fullShare ((dat0 m c).before 1 t0_0 d))
      ∗ (∃ d, owns (c : Thread nD τ) ((cfg0.win 2).stage (cfg0.slots t0_0 2)) fullShare ((dat0 m c).before 2 t0_0 d))
      ∗ (∃ d, owns (c : Thread nD τ) ((cfg0.win 3).stage (cfg0.slots t0_0 3)) fullShare ((dat0 m c).before 3 t0_0 d))
      ∗ (∃ d, owns (c : Thread nD τ) ((cfg0.win 4).stage (cfg0.slots t0_0 4)) fullShare ((dat0 m c).before 4 t0_0 d)))
      ⊢ (iprop(inputs c (qOf m c) (kOf m c) (vOf m c) (wOf m c) ∗ ∃ f, oAt c Finset.univ f) : sProp 𝕄) := by
    simp only [before_0, before_1, before_2, before_3]
    unfold inputs
    iintro ⟨⟨%d0, H0⟩, ⟨%d1, H1⟩, ⟨%d2, H2⟩, ⟨%d3, H3⟩, ⟨%d4, H4⟩⟩
    isplitl [H0 H1 H2 H3]
    · isplitl [H0]; · iapply (owns_out c cc0_stg0_0 _) $$ H0
      isplitl [H1]; · iapply (owns_out c cc0_stg1_0 _) $$ H1
      isplitl [H2]; · iapply (owns_out c cc0_stg2_0 _) $$ H2
      iapply (owns_out c cc0_stg3_0 _) $$ H3
    iexists _
    iapply (owns_out c cc0_stg4_0 _) $$ H4
  have hrun := body_run (partOf m)
  iintro ⟨HΦ, HO, HW⟩
  ihave HW := hin $$ HW
  icases HW with ⟨Hi, Ho⟩
  unfold Φin ready'
  icases HΦ with ⟨⟨%K, #HI, Ht⟩, Ha, Hr, Hp⟩
  ihave HO := (owes_out m c _ _ (owed_before m c)) $$ HO
  iapply (body_run (partOf m) K c (qOf m c) (kOf m c) (vOf m c) (wOf m c) rfl _)
  isplitr; · iexact HI
  isplitl [Ht HO]; · iapply Ht; unfold oweB; iexact HO
  isplitl [Hi]; · iexact Hi
  isplitl [Ha]; · iexact Ha
  isplitl [Ho]; · iexact Ho
  isplitl [Hr]; · iexact Hr
  unfold quiet owe inputs Φout
  iintro ⟨⟨Hb, Hd, HO⟩, ⟨H0, H1, H2, H3⟩, Ha, H4, Hr⟩
  isplitl [Hb Hd Ha Hr Hp]
  · isplitl [Hb]; · iexact Hb
    isplitl [Hd]; · iexact Hd
    isplitl [Ha]; · iexact Ha
    isplitl [Hr]; · iexact Hr
    iexact Hp
  isplitl [HO]; · iapply (owes_in m c _ _ (owed_after m c)); iexact HO
  isplitl [H0]; · iapply (owns_in c cc0_stg0_0 _) $$ H0
  isplitl [H1]; · iapply (owns_in c cc0_stg1_0 _) $$ H1
  isplitl [H2]; · iapply (owns_in c cc0_stg2_0 _) $$ H2
  isplitl [H3]; · iapply (owns_in c cc0_stg3_0 _) $$ H3
  iapply (owns_in c cc0_stg4_0 _) $$ H4

/-! ## The region -/

abbrev Sr : Finset (DevRef τ sig) := Pipeline.ucRefs τ sig \ Pipeline.arrRefs spec0

theorem own_sems (c : Dev nD) : (Pipeline.ownSems0 osem c : sProp 𝕄) = bigSep Finset.univ fun h : Hop => done h c :=
  pairs_eq (fun x => semVal (ownCell x c) 0)

theorem rest_eq (c : Dev nD) : (Pipeline.scopedRest (Ix := Unit) (Name := ℕ) (U := UU) (Lvl := ℕ) (Val := Elt F) spec0 c : sProp 𝕄)
    = iprop(accAny c ∗ ∃ f, rAt c Finset.univ f) := scopedRest0_eq c

theorem cut_ok (c : Dev nD) (t : Fin (cfg0.N + 1)) (g : GSem nD τ sig) (u : Unit) (h : 0 < (dat0 m c).owed t g u) :
    u ∈ L g ∧ 0 < lv g u := by
  have e : (dat0 m c).owed t = if t.val = 0 then O₀ c else 0 := rfl
  rw [e] at h
  split at h
  · rcases Ob_pos c _ g u h with ⟨i, -, rfl⟩ | ⟨x, rfl⟩
    · exact ⟨by rw [L_tc]; exact Finset.mem_singleton_self _, Nat.one_pos⟩
    · exact ⟨by rw [L_tc]; exact Finset.mem_singleton_self _, by rw [lv_rcv]; omega⟩
  · exact absurd h (Nat.lt_irrefl 0)

theorem own_facts : Pipeline.OwnSemFacts spec0 osem := by decide +kernel

theorem stage_level : ∀ (w : Fin 5) (s : Fin (spec0 w).nbuf), levOf (.dma ((spec0 w).sem s)) = 0 := by decide +kernel

theorem V2_out (c : Dev nD) : V2 m (outs m) c main_v21 = outs m 2 main_v21 c := Function.update_self ..

theorem at_exit (c : Dev nD) (w : Fin 5) : (dat0 m c).arrAt w cfg0.N = V2 m (outs m) c (Proc.devRef .tc (Pipeline.arrRef spec0 w)) :=
  match w with
  | ⟨0, _⟩ => ((dat0 m c).arrAt_in 0 rfl _).trans (V2_of m (outs m) c main_v8 (by decide)).symm
  | ⟨1, _⟩ => ((dat0 m c).arrAt_in 1 rfl _).trans (V2_of m (outs m) c main_v19 (by decide)).symm
  | ⟨2, _⟩ => ((dat0 m c).arrAt_in 2 rfl _).trans (V2_of m (outs m) c main_v20 (by decide)).symm
  | ⟨3, _⟩ => ((dat0 m c).arrAt_in 3 rfl _).trans (V2_of m (outs m) c main_arg4 (by decide)).symm
  | ⟨4, _⟩ => (arr_out m c).trans ((outs_eq m c).symm.trans (V2_out m c).symm)

theorem at_rest (c : Dev nD) (b : DevRef τ sig) (hb : b ∈ Sr \ ∅) : V2 m (outs m) c b = V1 m c b := by
  refine Function.update_of_ne (fun e => ?_) _ _
  rw [Finset.sdiff_empty] at hb
  refine (Finset.mem_sdiff.mp hb).2 ?_
  rw [e]
  exact Finset.mem_map_of_mem _ (Finset.mem_image.mpr ⟨(4 : Fin 5), Finset.mem_univ _, rfl⟩)

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest spec0 c ∗ (∃ r, prngReg c r) ∗ StableHlo.held (c.tc : Thread nD τ) ∅ (V1 m c) ∗ ready' (partOf m) c)
    ⊢ (Φin m c : sProp 𝕄) := by
  rw [rest_eq]; unfold Φin
  iintro ⟨⟨Ha, Hr⟩, Hp, -, HX⟩
  isplitl [HX]; · iexact HX
  isplitl [Ha]; · iexact Ha
  isplitl [Hr]; · iexact Hr
  iexact Hp

theorem leave (c : Dev nD) : (Φout c : sProp 𝕄)
    ⊢ iprop(Pipeline.scopedRest spec0 c ∗ (∃ r, prngReg c r) ∗ StableHlo.held (c.tc : Thread nD τ) ∅ (V2 m (outs m) c) ∗ Pipeline.ownSems0 osem c ∗ semVal (barCell c) 0) := by
  rw [rest_eq, own_sems, held_none]; unfold Φout
  iintro ⟨Hb, Hd, Ha, Hr, Hp⟩
  isplitl [Ha Hr]; · isplitl [Ha] <;> iassumption
  isplitl [Hp]; · iexact Hp
  isplitr; · iempintro
  isplitl [Hd] <;> iassumption

set_option backward.isDefEq.respectTransparency.types false in
/-- The kernel's region. -/
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ Sr (Finset.empty_subset _) launch0.toP rfl (fun c => (body_ok m c).loose)
    (fun _ => 0) O₀ (fun c => (owed_first m c).trans (zero_add _).symm) (owed_last m) (fun _ => rfl) (fun _ w => ite_self _)
    (V1 m) (V2 m (outs m)) (at_rest m)
    (sealed (partOf m)) (fun c => semVal (barCell c) 0) (ready' (partOf m)) (fun c => semVal (barCell c) 0)
    (open_own (partOf m)) (enter m) (leave m)
    (fun c => by iintro H; imodintro; iexact H)
    (fun _ => 0)
    ⟨fun c w s => by rw [L_tc]; exact Finset.mem_singleton_self _, fun c w s => le_of_eq (stage_level w s), fun c t g i h => cut_ok m c t g i h⟩
    (fun _ => iprop(emp))
    (fun _ w => rfl) (at_exit m)

/-! ## The run -/

/-- What a device carries beside the buffers, before the kernel and after it. -/
def E : Fin 2 → Dev nD → sProp 𝕄
  | 0, c => iprop(sealed (partOf m) c ∗ (∃ r, prngReg c r) ∗ ∃ W, owes (c : Thread nD τ) (O₀ c) W)
  | 1, c => iprop(semVal (barCell c) 0 ∗ ∃ W, owes (c : Thread nD τ) (0 : CellTallies nD τ sig Unit) W)

theorem arr_sub : Pipeline.arrRefs spec0 ⊆ Pipeline.ucRefs τ sig := by decide +kernel

set_option backward.isDefEq.respectTransparency.types false in
theorem region_pre (c : Dev nD) : iprop(StableHlo.held (c : Thread nD τ) (Pipeline.ucRefs τ sig) (V1 m c) ∗ E m 0 c) ⊢ (region m).pre c := by
  rw [StableHlo.held_sub_split c.tc arr_sub]
  show _ ⊢ iprop(StableHlo.held (c : Thread nD τ) (Pipeline.arrRefs spec0) (V1 m c) ∗ (∃ r, prngReg c r)
    ∗ (StableHlo.held (c : Thread nD τ) Sr (V1 m c) ∗ emp) ∗ sealed (partOf m) c ∗ ∃ W, owes (c : Thread nD τ) (0 + O₀ c) W)
  rw [zero_add]
  unfold E
  iintro ⟨⟨Ha, Hs⟩, Hk, Hp, HO⟩
  isplitl [Ha]; · iexact Ha
  isplitl [Hp]; · iexact Hp
  isplitl [Hs]
  · isplitl [Hs]; · iexact Hs
    iempintro
  isplitl [Hk] <;> iassumption

set_option backward.isDefEq.respectTransparency.types false in
theorem region_post (c : Dev nD) : (region m).post c ⊢ iprop(StableHlo.held (c : Thread nD τ) (Pipeline.ucRefs τ sig) (V2 m (outs m) c) ∗ E m 1 c) := by
  rw [StableHlo.held_sub_split c.tc arr_sub]
  show iprop(StableHlo.held (c : Thread nD τ) (Pipeline.arrRefs spec0) (V2 m (outs m) c) ∗ (∃ r, prngReg c r)
    ∗ (StableHlo.held (c : Thread nD τ) Sr (V2 m (outs m) c) ∗ emp) ∗ semVal (barCell c) 0 ∗ ∃ W, owes (c : Thread nD τ) (0 : CellTallies nD τ sig Unit) W) ⊢ _
  unfold E
  iintro ⟨Ha, -, ⟨Hs, -⟩, Hb, HO⟩
  isplitl [Ha Hs]; · isplitl [Ha] <;> iassumption
  isplitl [Hb] <;> iassumption

/-- All of a resource on one device. -/
def allOn (X : sProp 𝕄) (c : Dev nD) : sProp 𝕄 := if c = 0 then X else iprop(emp)
omit [FloatOps F] in
theorem allOn_sum (X : sProp 𝕄) : bigSep Finset.univ (allOn X) = X := by
  rw [bigSep_univ_at _ (0 : Dev nD), bigSep_congr (s := Finset.univ.erase 0) (Ψ := fun _ => (BI.emp : sProp 𝕄))
      fun c hc => by unfold allOn; rw [if_neg (Finset.ne_of_mem_erase hc)]; rfl, BI.bigSep_emp_const]
  unfold allOn; rw [if_pos rfl]
  exact BI.equiv_iff.mp sep_emp

def G : Dev nD → sProp 𝕄 := allOn (BI.own (ER seed))
def u₀ : UU := (initOf (Pipeline.cells cfgs cellOf_inj) (Pipeline.launchToks cfgs cellOf_inj), seed)

omit [FloatOps F] in
theorem unscoped_eq : ∀ sm : SemLoc sig, sm.isScoped .tc = false → sm = .reg barS := by decide +kernel
omit [FloatOps F] in
theorem unscoped_filter : (Finset.univ.filter fun sm : SemLoc sig => ¬ (sm.isScoped .tc = true)) = {.reg barS} := by decide +kernel
omit [FloatOps F] in
theorem unscoped_sems (c : Dev nD) : (unscopedSems0 c : sProp 𝕄) = semVal (barCell c) 0 := by
  unfold unscopedSems0; rw [unscoped_filter, bigSep_singleton]

theorem start :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c)) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V0 m c) ∗ (∃ r, prngReg c r) ∗ ∃ W, owes (c : Thread nD τ) (O₀ c) W)
        ∗ ((semVal (barCell c) 0 ∗ Pipeline.launchCred O₀ c) ∗ G c)) : sProp 𝕄) := by
    rw [show unscopedBufs c (fun b => m ((c : Thread nD τ).loc b)) = StableHlo.held (c : Thread nD τ) (Pipeline.ucRefs τ sig) (V0 m c) from Pipeline.unscopedBufs_held c (V0 m c),
      unscoped_sems]
    iintro ⟨Hh, Hb, HO, Hc, Hp, HG⟩
    isplitl [Hh HO Hp]
    · isplitl [Hh]; · iexact Hh
      isplitl [Hp]
      · iexists (ρ c); iexact Hp
      iexists ∅; iexact HO
    isplitl [Hb Hc]; · isplitl [Hb] <;> iassumption
    iexact HG
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((StableHlo.held (c : Thread nD τ) (Pipeline.ucRefs τ sig) (V0 m c) ∗ (∃ r, prngReg c r) ∗ ∃ W, owes (c : Thread nD τ) (O₀ c) W)
        ∗ ((semVal (barCell c) 0 ∗ Pipeline.launchCred O₀ c) ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER seed) from Entails.of_eq (allOn_sum _)) $$ HG
  imod (deal (partOf m)) $$ [Hv Hu] with HS
  · isplitl [Hv] <;> iassumption
  imodintro
  iapply (show (bigSep Finset.univ fun c : Dev nD => iprop((StableHlo.held (c : Thread nD τ) (Pipeline.ucRefs τ sig) (V0 m c) ∗ (∃ r, prngReg c r) ∗ ∃ W, owes (c : Thread nD τ) (O₀ c) W)
        ∗ sealed (partOf m) c))
      ⊢ (bigSep Finset.univ fun c : Dev nD => iprop(StableHlo.held (c : Thread nD τ) (Pipeline.ucRefs τ sig) (V0 m c) ∗ E m 0 c) : sProp 𝕄) from
    bigSep_mono fun c _ => by
      show (iprop((StableHlo.held (c : Thread nD τ) (Pipeline.ucRefs τ sig) (V0 m c) ∗ (∃ r, prngReg c r) ∗ ∃ W, owes (c : Thread nD τ) (O₀ c) W) ∗ sealed (partOf m) c) : sProp 𝕄)
        ⊢ iprop(StableHlo.held (c : Thread nD τ) (Pipeline.ucRefs τ sig) (V0 m c) ∗ sealed (partOf m) c ∗ (∃ r, prngReg c r) ∗ ∃ W, owes (c : Thread nD τ) (O₀ c) W)
      iintro ⟨⟨Hh, Hp, HO⟩, Hk⟩
      isplitl [Hh]; · iexact Hh
      isplitl [Hk]; · iexact Hk
      isplitl [Hp] <;> iassumption)
  iapply bigSep_pair
  isplitl [HB] <;> iassumption

set_option backward.isDefEq.respectTransparency.types false in
/-- Every execution of the program ends, with the arguments as launched, the result the kernel's, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v22) = V3 m (outs m) c main_v22) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (region m))
    (fun c Q => by
      rewrite [main_chain c, Pipeline.Seg.run_eq_chain,
        show (segs m (outs m) 𝒱₀ L lv (E m) () (pdats m) (region m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [allOn_sum]; iexact HX)
    (fun c => iprop(StableHlo.held (c : Thread nD τ) (Pipeline.ucRefs τ sig) (V0 m c) ∗ E m 0 c))
    (fun c => iprop(StableHlo.held (c : Thread nD τ) (Pipeline.ucRefs τ sig) (V3 m (outs m) c) ∗ semVal (barCell c) 0))
    (fun c => ⟨.rfl, region_pre m c, region_post m c, by
      show iprop(StableHlo.held (c : Thread nD τ) (Pipeline.ucRefs τ sig) (V3 m (outs m) c)
          ∗ (semVal (barCell c) 0 ∗ ∃ W, owes (c : Thread nD τ) (0 : CellTallies nD τ sig Unit) W)) ⊢ _
      iintro ⟨Hh, Hb, HO⟩
      isplitl [Hh Hb]; · isplitl [Hh] <;> iassumption
      iexact HO⟩)
    (start m ρ)
    (fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v22) = V3 m (outs m) c main_v22) ∧ s.sem (barCell c) = 0)
    (fun c s' => by
      iintro ⟨⟨Hh, Hb⟩, HSI⟩
      icombine HSI Hb gives %hb
      unfold StableHlo.held
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (V3_main_arg0 m (outs m) c),
          (h (Proc.devRef .tc main_arg1) (Finset.mem_filter.mpr ⟨StableHlo.devRef_mem_tcRefs main_arg1, by decide⟩)).trans (V3_main_arg1 m (outs m) c),
          (h (Proc.devRef .tc main_arg2) (Finset.mem_filter.mpr ⟨StableHlo.devRef_mem_tcRefs main_arg2, by decide⟩)).trans (V3_main_arg2 m (outs m) c),
          (h (Proc.devRef .tc main_arg3) (Finset.mem_filter.mpr ⟨StableHlo.devRef_mem_tcRefs main_arg3, by decide⟩)).trans (V3_main_arg3 m (outs m) c),
          (h (Proc.devRef .tc main_arg4) (Finset.mem_filter.mpr ⟨StableHlo.devRef_mem_tcRefs main_arg4, by decide⟩)).trans (V3_main_arg4 m (outs m) c)⟩,
          h (Proc.devRef .tc main_v22) (Finset.mem_filter.mpr ⟨StableHlo.devRef_mem_tcRefs main_v22, by decide⟩)⟩,
          by simpa using hb⟩
      · iexact HSI)
    (fun s h hs => ⟨fun c => (h c).1, sem_eq_zero hs fun c sm hsm => by
      obtain rfl := unscoped_eq sm hsm
      exact (h c).2⟩)

end Cert.KernelIdeal.Net

end
-- ==== Proof.Attend.lean ====
/-
  The attention layer as sums over the extended reals: what both programs compute.

  A score is a scaled product of a query row and a key row, or the far value where the mask does not reach; a weight is the
  exponential of a score over the row's sum of exponentials; a context is a weighted sum of value rows; the output is a sum
  over the 8192 context columns. Nothing here knows of a device or of a block.

  `weight_shift`: subtracting a row's maximum from its scores changes no weight, the scores being real numbers.
  `sum_columns`: the 8192 columns are 16 devices of 8 heads of 64 columns.
-/
module

public import Idealize.ShloMosaic.Lib.Pointwise
public import Idealize.ShloMosaic.Lib.IdealHost

@[expose] public section

noncomputable section

namespace Cert.Attend

open Idealize.ShloMosaic

/-! ## The layer -/

abbrev X3 := (⟨3, ![2, 512, 768]⟩ : Shape).Idx → EReal
abbrev Q2 := (⟨2, ![768, 8192]⟩ : Shape).Idx → EReal
abbrev K4 := (⟨4, ![2, 512, 128, 64]⟩ : Shape).Idx → EReal
abbrev O2 := (⟨2, ![8192, 768]⟩ : Shape).Idx → EReal

/-- The word the mask holds at query row `i` and key row `j`: they are within 128 rows, or one of them is below 32. -/
def near (i j : Fin 512) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- The scale, 1/8, and the score of a pair out of the mask's reach, −10⁹. -/
def scale : EReal := Ideal.ofBits .f32 0x3E000000#32
def far : EReal := Ideal.ofBits .f32 0xCE6E6B28#32

/-- Column `d` of head `h`. -/
def col (h : Fin 128) (d : Fin 64) : Fin 8192 := ⟨h.val * 64 + d.val, by omega⟩

def query (x : X3) (wq : Q2) (b : Fin 2) (i : Fin 512) (f : Fin 8192) : EReal := ∑ e : Fin 768, x (ix3 b i e) * wq (ix2 e f)

def score (x : X3) (wq : Q2) (k : K4) (b : Fin 2) (h : Fin 128) (i j : Fin 512) : EReal :=
  Scalar.select (near i j) ((∑ d : Fin 64, query x wq b i (col h d) * k (ix4 b j h d)) * scale) far

/-- The softmax of a row of scores. -/
def weight (s : Fin 512 → EReal) (j : Fin 512) : EReal := Ideal.div (Ideal.exp (s j)) (∑ k : Fin 512, Ideal.exp (s k))

def context (x : X3) (wq : Q2) (k v : K4) (b : Fin 2) (h : Fin 128) (i : Fin 512) (d : Fin 64) : EReal :=
  ∑ j : Fin 512, weight (score x wq k b h i) j * v (ix4 b j h d)

/-- The output at row `i` of batch `b`, column `n`. -/
def out (x : X3) (wq : Q2) (k v : K4) (wo : O2) (b : Fin 2) (i : Fin 512) (n : Fin 768) : EReal :=
  ∑ f : Fin 8192, context x wq k v b ⟨f.val / 64, by omega⟩ i ⟨f.val % 64, Nat.mod_lt _ (by decide)⟩ * wo (ix2 f n)

/-! ## The mask reaches the diagonal -/

theorem one_or : ∀ w : BitVec 1, IntOp.ori 1#1 w = 1#1 := by decide

theorem near_self (i : Fin 512) : near i i = 1#1 := by
  have h : IntOp.subi (BitVec.ofNat 32 i.val) (BitVec.ofNat 32 i.val) = 0#32 := BitVec.sub_self _
  unfold near
  rw [h, show IntOp.cmpi .sle (IntOp.absi 0#32) 128#32 = 1#1 from by decide]
  exact one_or _

theorem some_near (i : Fin 512) : Finset.univ.fold IntOp.ori 0#1 (fun j => near i j) = 1#1 := by
  rw [← Finset.insert_erase (Finset.mem_univ i), Finset.fold_insert (Finset.notMem_erase i Finset.univ), near_self]
  exact one_or _

/-! ## Real values -/

/-- `x` is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem scale_real : IsReal scale := by unfold scale Ideal.ofBits Ideal.ieee; simp; exact ⟨_, rfl⟩
theorem far_real : IsReal far := by unfold far Ideal.ofBits Ideal.ieee; simp; exact ⟨_, rfl⟩

theorem score_real (x : X3) (wq : Q2) (k : K4) (hx : ∀ i, IsReal (x i)) (hq : ∀ i, IsReal (wq i)) (hk : ∀ i, IsReal (k i))
    (b : Fin 2) (h : Fin 128) (i j : Fin 512) : IsReal (score x wq k b h i j) := by
  unfold score Scalar.select
  split
  · exact (IsReal.sum _ _ fun d => (IsReal.sum _ _ fun e => (hx _).mul (hq _)).mul (hk _)).mul scale_real
  · exact far_real

/-! ## Softmax and a row's maximum -/

theorem max_real (s : Fin 512 → EReal) (hs : ∀ j, IsReal (s j)) : IsReal (Finset.univ.fold max ⊥ s) := by
  have hb : ⊥ < Finset.univ.fold max ⊥ s := by
    obtain ⟨r, hr⟩ := hs 0
    exact (Finset.lt_fold_max _).mpr (Or.inr ⟨0, Finset.mem_univ _, by rw [hr]; exact EReal.bot_lt_coe r⟩)
  have ht : Finset.univ.fold max ⊥ s < ⊤ :=
    (Finset.fold_max_lt _).mpr ⟨bot_lt_top, fun j _ => by obtain ⟨r, hr⟩ := hs j; rw [hr]; exact EReal.coe_lt_top r⟩
  exact ⟨_, (EReal.coe_toReal ht.ne hb.ne').symm⟩

theorem exp_coe (r : ℝ) : Ideal.exp (r : EReal) = (Real.exp r : EReal) := rfl

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Softmax, of scores less their maximum, is softmax. -/
theorem weight_shift (s : Fin 512 → EReal) (hs : ∀ j, IsReal (s j)) (j : Fin 512) :
    Ideal.div (Ideal.exp (s j - Finset.univ.fold max ⊥ s)) (∑ k : Fin 512, Ideal.exp (s k - Finset.univ.fold max ⊥ s)) = weight s j := by
  obtain ⟨M, hM⟩ := max_real s hs
  choose t ht using hs
  unfold weight
  rw [hM]
  simp only [ht, ← EReal.coe_sub, exp_coe, sum_coe]
  have pos : ∀ g : Fin 512 → ℝ, (∑ k : Fin 512, Real.exp (g k)) ≠ 0 := fun g =>
    (Finset.sum_pos (fun k _ => Real.exp_pos _) ⟨0, Finset.mem_univ _⟩).ne'
  rw [Ideal.div_coe (pos _), Ideal.div_coe (pos _), ← EReal.coe_mul, ← EReal.coe_mul]
  congr 1
  have e : ∑ k : Fin 512, Real.exp (t k - M) = (∑ k : Fin 512, Real.exp (t k)) * (Real.exp M)⁻¹ := by
    rw [Finset.sum_mul]
    exact Finset.sum_congr rfl fun k _ => by rw [Real.exp_sub, div_eq_mul_inv]
  rw [e, Real.exp_sub]
  have h1 := pos t
  have h2 := (Real.exp_pos M).ne'
  field_simp

/-! ## The columns by device and head -/

/-- Column `d` of head `h` of device `c`. -/
def place (c : Fin 16) (h : Fin 8) (d : Fin 64) : Fin 8192 := ⟨c.val * 512 + h.val * 64 + d.val, by omega⟩

/-- Head `h` of device `c`. -/
def head (c : Fin 16) (h : Fin 8) : Fin 128 := ⟨c.val * 8 + h.val, by omega⟩

theorem col_head (c : Fin 16) (h : Fin 8) (d : Fin 64) : col (head c h) d = place c h d :=
  Fin.ext (by show (c.val * 8 + h.val) * 64 + d.val = c.val * 512 + h.val * 64 + d.val; omega)

theorem sum_columns (g : Fin 8192 → EReal) : ∑ f : Fin 8192, g f = ∑ c : Fin 16, ∑ h : Fin 8, ∑ d : Fin 64, g (place c h d) := by
  let e : Fin 16 × Fin 8 × Fin 64 ≃ Fin 8192 :=
    { toFun := fun p => place p.1 p.2.1 p.2.2
      invFun := fun f => (⟨f.val / 512, by omega⟩, ⟨f.val / 64 % 8, by omega⟩, ⟨f.val % 64, by omega⟩)
      left_inv := fun ⟨c, h, d⟩ => by
        refine Prod.ext (Fin.ext ?_) (Prod.ext (Fin.ext ?_) (Fin.ext ?_)) <;> simp only [place] <;> omega
      right_inv := fun f => Fin.ext (by simp only [place]; omega) }
  rw [← Equiv.sum_comp e g, Fintype.sum_prod_type]
  exact Finset.sum_congr rfl fun c _ => Fintype.sum_prod_type _

/-- The output, device by device. -/
theorem out_eq (x : X3) (wq : Q2) (k v : K4) (wo : O2) (b : Fin 2) (i : Fin 512) (n : Fin 768) :
    out x wq k v wo b i n
      = ∑ c : Fin 16, ∑ h : Fin 8, ∑ d : Fin 64, context x wq k v b (head c h) i d * wo (ix2 (place c h d) n) := by
  unfold out
  rw [sum_columns]
  refine Finset.sum_congr rfl fun c _ => Finset.sum_congr rfl fun h _ => Finset.sum_congr rfl fun d _ => ?_
  have e0 : (⟨(place c h d).val / 64, by omega⟩ : Fin 128) = head c h := Fin.ext (by simp only [place, head]; omega)
  have e1 : (⟨(place c h d).val % 64, Nat.mod_lt _ (by decide)⟩ : Fin 64) = d := Fin.ext (by simp only [place]; omega)
  rw [e0, e1]

end Cert.Attend
-- ==== Proof.Total.lean ====
/-
  Over the extended reals the exchange sums the sixteen partial outputs: the order of the additions is of no account.
-/
module

public import proofs.«01_k».proof.Proof.Run
public import proofs.«01_k».proof.Proof.Attend

@[expose] public section

noncomputable section

namespace Cert.KernelIdeal.Net

open Cert.KernelIdeal Cert.KernelIdeal.Gen
open Idealize.ShloMosaic

/-- The devices whose partial outputs device `c`'s sum in stream `s` holds after `n` levels. -/
def whose (s : Fin 2) : ℕ → Dev nD → List (Dev nD)
  | 0, c => [c]
  | n + 1, c => whose s n c ++ whose s n (peer s ⟨n % 4, Nat.mod_lt _ (by decide)⟩ c)

/-- After four levels it holds each device's once. -/
theorem whose_all : ∀ (s : Fin 2) (c : Dev nD), (whose s 4 c).Perm (List.finRange 16) := by decide +kernel

theorem vv_whose (P : Dev nD → Arr Ideal) (s : Fin 2) (n : ℕ) (c : Dev nD) (i : Ix) :
    vv P s n c i = ((whose s n c).map fun d => (P d i : EReal)).sum := by
  induction n generalizing c with
  | zero => simp [vv, whose]
  | succ n ih =>
    rw [whose, List.map_append, List.sum_append, ← ih, ← ih]
    rfl

theorem vv_sum (P : Dev nD → Arr Ideal) (s : Fin 2) (c : Dev nD) (i : Ix) :
    vv P s 4 c i = ∑ d : Fin 16, (P d i : EReal) := by
  rw [vv_whose, ((whose_all s c).map _).sum_eq, ← List.ofFn_eq_map, List.sum_ofFn]

theorem total_sum (P : Dev nD → Arr Ideal) (i : Ix) : total P i = ∑ d : Fin 16, (P d i : EReal) := by
  unfold total fin
  split <;> exact vv_sum P _ _ i

end Cert.KernelIdeal.Net
-- ==== Proof.KernelValue.lean ====
/-
  The kernel's output, read at an index, is the attention layer of the whole arguments, `Attend.out`.

  A device's query heads are its block of the projection's columns, its key and value heads the eight of its number; its
  partial output is the sum over its heads of the context times its rows of the output projection.
-/
module

public import proofs.«01_k».proof.Proof.Total
public import Idealize.ShloMosaic.Lib.DynamicIndex

@[expose] public section

set_option maxRecDepth 100000

noncomputable section

namespace Cert.KernelIdeal.Net

open Cert.KernelIdeal Cert.KernelIdeal.Gen
open Idealize.ShloMosaic
open Idealize.ShloMosaic.TcCoe

/-! ## A head's share, at an index -/

/-- The mask the kernel builds is the layer's. -/
theorem mask_at (i j : Fin 512) : k0_pay69 (ix2 i j) = Attend.near i j := by
  pointwise [k0_pay69]
  exact BitVec.or_assoc _ _ _

/-- A head's scores. -/
def hscore (q k : Vec Ideal S1x1x512x64 .bf16) (i j : Fin 512) : EReal :=
  Scalar.select (Attend.near i j) ((∑ d : Fin 64, (q (ix4 0 0 i d) : EReal) * (k (ix4 0 0 j d) : EReal)) * Attend.scale) Attend.far

/-- A head's share of the output: its context times its rows of the projection. -/
def share (q k v : Vec Ideal S1x1x512x64 .bf16) (w : Vec Ideal S64x768 .bf16) (i : Fin 512) (n : Fin 768) : EReal :=
  ∑ d : Fin 64, (∑ j : Fin 512, Attend.weight (hscore q k i) j * (v (ix4 0 0 j d) : EReal)) * (w (ix2 d n) : EReal)

theorem pay13_at (q k v : Vec Ideal S1x1x512x64 .bf16) (w : Vec Ideal S64x768 .bf16) (i : Fin 512) (n : Fin 768) :
    k0_pay13 k0_pay69 q k v w (ix2 i n) = share q k v w i n := by
  pointwise [k0_pay13]
  simp only [mask_at]
  rfl

theorem pay1_at (q k v : Vec Ideal S1x1x512x64 .bf16) (w : Vec Ideal S64x768 .bf16) (i : Fin 512) (n : Fin 768) :
    k0_pay1 k0_pay69 q k v w (ix2 i n) = share q k v w i n := by
  pointwise [k0_pay1]
  simp only [mask_at]
  rfl

theorem pay14_at (a acc : FVec Ideal S512x768 .f32) (i : Fin 512) (n : Fin 768) :
    k0_pay14 a acc (ix2 i n) = (acc (ix2 i n) : EReal) + (a (ix2 i n) : EReal) := by
  pointwise [k0_pay14]

theorem pay17_at (a : FVec Ideal S512x768 .f32) (i : Fin 512) (n : Fin 768) :
    (k0_pay17 (F := Ideal) a (ix2 i n) : EReal) = a (ix2 i n) := by
  pointwise [k0_pay17]

/-- A batch's rows: the sum of its heads' shares. -/
theorem batch_at (b : Fin 2) (q k v : Hd Ideal) (w : Wb Ideal) (i : Fin 512) (n : Fin 768) :
    batchOut b q k v w (ix2 i n) = ∑ h : Fin 8, share (slab b h q) (slab b h k) (slab b h v) (proj h w) i n := by
  unfold batchOut headOut
  rw [pay17_at, Fin.sum_univ_eight]
  simp only [pay14_at, pay13_at, pay1_at]

/-! ## The windows and the host's arrays, at an index -/

theorem slab_at (b : Fin 2) (h : Fin 8) (f : Hd Ideal) (i : Fin 512) (d : Fin 64) : slab b h f (ix4 0 0 i d) = f (ix4 b h i d) := by
  unfold slab
  congr 1
  funext a
  refine Fin.ext ?_
  rw [emb_val]
  match a with
  | ⟨0, _⟩ => rfl
  | ⟨1, _⟩ => rfl
  | ⟨2, _⟩ => exact Nat.zero_add _
  | ⟨3, _⟩ => exact Nat.zero_add _

theorem proj_at (h : Fin 8) (w : Wb Ideal) (d : Fin 64) (n : Fin 768) :
    proj h w (ix2 d n) = w (ix2 ⟨64 * h.val + d.val, by omega⟩ n) := by
  unfold proj
  congr 1
  funext a
  refine Fin.ext ?_
  rw [emb_val]
  match a with
  | ⟨0, _⟩ => rfl
  | ⟨1, _⟩ => exact Nat.zero_add _

variable (m : (ℓ : Loc nD τ sig) → Buf (Elt Ideal) ℓ)

/-- Device `c`'s arguments. -/
def aX (c : Dev nD) : S2x512x768.Idx → EReal := m ((c.tc : Thread nD τ).loc main_arg0)
def aQ (c : Dev nD) : S768x512.Idx → EReal := m ((c.tc : Thread nD τ).loc main_arg1)
def aK (c : Dev nD) : S2x512x128x64.Idx → EReal := m ((c.tc : Thread nD τ).loc main_arg2)
def aV (c : Dev nD) : S2x512x128x64.Idx → EReal := m ((c.tc : Thread nD τ).loc main_arg3)
def aO (c : Dev nD) : S512x768.Idx → EReal := m ((c.tc : Thread nD τ).loc main_arg4)

theorem q_at (c : Dev nD) (b : Fin 2) (h : Fin 8) (i : Fin 512) (d : Fin 64) :
    (qOf m c (ix4 b h i d) : EReal) = ∑ e : Fin 768, aX m c (ix3 b i e) * aQ m c (ix2 e ⟨h.val * 64 + d.val, by omega⟩) := by
  unfold qOf
  simp only [V1, hostOps0]
  after_results_simp
  pointwise
  rfl

/-- Device `c`'s first head, as a start in a key or value array. -/
def head0 (c : Dev nD) : Fin 4 → ℕ := ![0, 0, c.val * 8, 0]

theorem head0_fits : ∀ c : Dev nD, S2x512x128x64.Slices (head0 c) S2x512x8x64 := by decide

/-- The heads of a key or value array that device `c` works on, as its host cuts them out. -/
theorem heads_at (c : Dev nD) (f : S2x512x128x64.Idx → EReal) (start : Fin 4 → Int) (hs : ∀ a, start a = (head0 c a : Int))
    (b : Fin 2) (h : Fin 8) (j : Fin 512) (d : Fin 64) :
    transpose S2x8x512x64 [0, 2, 1, 3] (Host.dynamicSlice S2x512x8x64 f start sliceFits_S2x512x128x64_S2x512x8x64)
      transposes_S2x512x8x64_S2x8x512x64_0_2_1_3 (ix4 b h j d) = f (ix4 b j (Attend.head c h) d) := by
  rw [Host.dynamicSlice_eq_extractStridedSlice S2x512x8x64 f start _ sliceFits_S2x512x128x64_S2x512x8x64 (head0_fits c) hs]
  pointwise
  refine congrArg f (funext fun a => Fin.ext ?_)
  match a with
  | ⟨0, _⟩ => exact Nat.zero_add _
  | ⟨1, _⟩ => exact Nat.zero_add _
  | ⟨2, _⟩ => rfl
  | ⟨3, _⟩ => exact Nat.zero_add _

/-- The word the host computes for the first head is eight times the device's number. -/
theorem head0_word : ∀ c : Dev nD, BitVec.toInt (Scalar.select (IntOp.cmpi .slt (IntOp.muli (IntOp.remui .host (IntOp.divui .host (Dev.word c) 1#32) 16#32) 8#32) 0#32)
    (IntOp.addi (IntOp.muli (IntOp.remui .host (IntOp.divui .host (Dev.word c) 1#32) 16#32) 8#32) 128#32)
    (IntOp.muli (IntOp.remui .host (IntOp.divui .host (Dev.word c) 1#32) 16#32) 8#32)) = ((c.val * 8 : ℕ) : Int) := by
  decide +kernel

theorem k_at (c : Dev nD) (b : Fin 2) (h : Fin 8) (j : Fin 512) (d : Fin 64) :
    (kOf m c (ix4 b h j d) : EReal) = aK m c (ix4 b j (Attend.head c h) d) := by
  unfold kOf
  simp only [V1, hostOps0]
  after_results_simp
  refine heads_at c (aK m c) _ (fun a => ?_) b h j d
  fin_cases a
  · simp only [Fin.zero_eta, Matrix.cons_val]
    after_results_simp
    rfl
  · simp only [Fin.mk_one, Matrix.cons_val]
    after_results_simp
    rfl
  · simp only [Fin.reduceFinMk, Matrix.cons_val]
    after_results_simp
    exact head0_word c
  · simp only [Fin.reduceFinMk, Matrix.cons_val]
    after_results_simp
    rfl

theorem v_at (c : Dev nD) (b : Fin 2) (h : Fin 8) (j : Fin 512) (d : Fin 64) :
    (vOf m c (ix4 b h j d) : EReal) = aV m c (ix4 b j (Attend.head c h) d) := by
  unfold vOf
  simp only [V1, hostOps0]
  after_results_simp
  refine heads_at c (aV m c) _ (fun a => ?_) b h j d
  fin_cases a
  · simp only [Fin.zero_eta, Matrix.cons_val]
    after_results_simp
    rfl
  · simp only [Fin.mk_one, Matrix.cons_val]
    after_results_simp
    rfl
  · simp only [Fin.reduceFinMk, Matrix.cons_val]
    after_results_simp
    exact head0_word c
  · simp only [Fin.reduceFinMk, Matrix.cons_val]
    after_results_simp
    rfl

theorem w_at (c : Dev nD) (r : Fin 512) (n : Fin 768) : (wOf m c (ix2 r n) : EReal) = aO m c (ix2 r n) := by
  unfold wOf
  rw [V1_of m c main_arg4 (by decide)]
  rfl

/-! ## A device's partial output -/

/-- The whole arguments that the devices' arguments are blocks of: `x`, `K` and `V` whole on every device, the projections
    cut by columns and by rows. -/
structure Cut (x : Attend.X3) (wq : Attend.Q2) (k v : Attend.K4) (wo : Attend.O2) : Prop where
  x : ∀ c, aX m c = x
  q : ∀ (c : Dev nD) (e : Fin 768) (h : Fin 8) (d : Fin 64),
    aQ m c (ix2 e ⟨h.val * 64 + d.val, by omega⟩) = wq (ix2 e (Attend.place c h d))
  k : ∀ c, aK m c = k
  v : ∀ c, aV m c = v
  o : ∀ (c : Dev nD) (h : Fin 8) (d : Fin 64) (n : Fin 768),
    aO m c (ix2 ⟨64 * h.val + d.val, by omega⟩ n) = wo (ix2 (Attend.place c h d) n)

variable {m} {x : Attend.X3} {wq : Attend.Q2} {k v : Attend.K4} {wo : Attend.O2}

theorem hscore_eq (H : Cut m x wq k v wo) (c : Dev nD) (b : Fin 2) (h : Fin 8) (i : Fin 512) :
    hscore (slab b h (qOf m c)) (slab b h (kOf m c)) i = Attend.score x wq k b (Attend.head c h) i := by
  funext j
  unfold hscore Attend.score
  refine congrArg (fun z => Scalar.select (Attend.near i j) (z * Attend.scale) Attend.far) (Finset.sum_congr rfl fun d _ => ?_)
  rw [slab_at, slab_at, q_at, k_at, H.x, H.k, Attend.col_head]
  unfold Attend.query
  refine congrArg (· * _) (Finset.sum_congr rfl fun e _ => ?_)
  rw [H.q]

theorem share_eq (H : Cut m x wq k v wo) (c : Dev nD) (b : Fin 2) (h : Fin 8) (i : Fin 512) (n : Fin 768) :
    share (slab b h (qOf m c)) (slab b h (kOf m c)) (slab b h (vOf m c)) (proj h (wOf m c)) i n
      = ∑ d : Fin 64, Attend.context x wq k v b (Attend.head c h) i d * wo (ix2 (Attend.place c h d) n) := by
  unfold share
  refine Finset.sum_congr rfl fun d _ => ?_
  rw [hscore_eq H, proj_at, w_at, H.o]
  unfold Attend.context
  refine congrArg (· * _) (Finset.sum_congr rfl fun j _ => ?_)
  rw [slab_at, v_at, H.v]

/-- Row `512 b + i` of the exchanged rows is row `i` of batch `b`. -/
def rowAt (b : Fin 2) (i : Fin 512) : Fin 1024 := ⟨512 * b.val + i.val, by omega⟩

theorem total_at (H : Cut m x wq k v wo) (b : Fin 2) (i : Fin 512) (n : Fin 768) :
    (total (partOf m) (ix2 (rowAt b i) n) : EReal) = Attend.out x wq k v wo b i n := by
  rw [total_sum, Attend.out_eq]
  refine Finset.sum_congr rfl fun c _ => ?_
  unfold partOf
  rw [part_at b _ _ _ _ (ix2 (rowAt b i) n) (ix2 i n) rfl rfl, batch_at]
  exact Finset.sum_congr rfl fun h _ => share_eq H c b h i n

/-- The result of every device, at an index. -/
theorem result_at (H : Cut m x wq k v wo) (c : Dev nD) (b : Fin 2) (i : Fin 512) (n : Fin 768) :
    (V3 m (outs m) c main_v22 (ix3 b i n) : EReal) = Attend.out x wq k v wo b i n := by
  refine Eq.trans ?_ (total_at H b i n)
  simp only [V3, hostOps1]
  after_results_simp
  rw [show V2 m (outs m) c main_v21 = outs m 2 main_v21 c from Function.update_self .., outs_eq]
  pointwise
  exact congrArg (fun r : Fin 1024 => total (partOf m) (ix2 r n)) (Fin.ext (by show b.val * 512 + i.val = 512 * b.val + i.val; omega))

end Cert.KernelIdeal.Net
-- ==== Proof.RefValue.lean ====
/-
  The reference's output, read at an index, is the attention layer of its arguments, `Attend.out`.
-/
module

public import proofs.«01_k».proof.Proof.Attend
public import proofs.«01_k».proof.Proof.Gen.ReferenceIdeal.Run

@[expose] public section

set_option maxRecDepth 8192

noncomputable section

namespace Cert.ReferenceIdeal.Value

open Cert.ReferenceIdeal Cert.ReferenceIdeal.Gen
open Idealize.ShloMosaic
open Idealize.ShloMosaic.TcCoe

theorem neg_inf : Ideal.ofBits .f32 0xFF800000#32 = ⊥ := by simp [Ideal.ofBits, Ideal.ieee]

/-- The reference's guarded softmax: its guards let every row through, and the maximum it subtracts changes nothing. -/
theorem guarded (S : Fin 512 → EReal) (hS : ∀ j, Attend.IsReal (S j)) (i j : Fin 512) (z z' : EReal) :
    Scalar.select (Finset.univ.fold IntOp.ori 0#1 (fun j => Attend.near i j))
        (Ideal.div (Ideal.exp (S j - Finset.univ.fold max (Ideal.ofBits .f32 0xFF800000#32) S))
          (Scalar.select (Finset.univ.fold IntOp.ori 0#1 (fun j => Attend.near i j))
            (∑ k : Fin 512, Ideal.exp (S k - Finset.univ.fold max (Ideal.ofBits .f32 0xFF800000#32) S)) z)) z'
      = Attend.weight S j := by
  rw [Attend.some_near, neg_inf]
  exact Attend.weight_shift S hS j

theorem ref_at (m : (ℓ : Loc nD τ sig) → Buf (Elt Ideal) ℓ) (c : Dev nD)
    (hx : ∀ i, Attend.IsReal (m ((c.tc : Thread nD τ).loc main_arg0) i))
    (hq : ∀ i, Attend.IsReal (m ((c.tc : Thread nD τ).loc main_arg1) i))
    (hk : ∀ i, Attend.IsReal (m ((c.tc : Thread nD τ).loc main_arg2) i)) (b : Fin 2) (s : Fin 512) (n : Fin 768) :
    res_main_v48 m c (ix3 b s n)
      = Attend.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b s n := by
  pointwise [res_main_v48]
  unfold Attend.out
  change @Eq EReal _ _
  refine Finset.sum_congr rfl fun x _ => congrArg (· * _) ?_
  unfold Attend.context
  refine Finset.sum_congr rfl fun j _ => ?_
  refine (mul_comm _ _).trans (congrArg (· * _) ?_)
  exact guarded _ (Attend.score_real _ _ _ hx hq hk b ⟨x.val / 64, by omega⟩ s) s j _ _

end Cert.ReferenceIdeal.Value
-- ==== Proof.Value.lean ====
/-
  The kernel's result and the reference's are one array.

  The hypotheses are the claim's: each device holds `x`, `K` and `V` whole, block `c` of the query projection's columns and
  block `c` of the output projection's rows; and `x`, the query projection and `K` are finite.
-/
module

public import proofs.«01_k».proof.Proof.KernelValue
public import proofs.«01_k».proof.Proof.RefValue
public import Idealize.ShloMosaic.Lib.Layout

@[expose] public section

noncomputable section

namespace Cert.KernelIdeal.Net

open Cert.KernelIdeal Cert.KernelIdeal.Gen
open Idealize.ShloMosaic
open Idealize.ShloMosaic.TcCoe

/-- A value whose magnitude is below the 16-bit `+∞` is a real number. -/
theorem real_of_lt {x : EReal} (h : Ideal.cmp .olt (max x (-x)) (Ideal.ofBits .bf16 0x7F80#16) = 1#1) : Attend.IsReal x := by
  have top : Ideal.ofBits .bf16 0x7F80#16 = ⊤ := by simp [Ideal.ofBits, Ideal.ieee]
  rw [top] at h
  have lt : max x (-x) < ⊤ := by
    by_contra n
    simp [Ideal.cmp, n] at h
  refine ⟨x.toReal, (EReal.coe_toReal (fun e => ?_) (fun e => ?_)).symm⟩ <;> subst e <;> simp at lt

/-- Block `c` of the query projection, cut by columns. -/
theorem block_q (w : Attend.Q2) (c : Fin 16) (e : Fin 768) (l : Fin 512) :
    Layout.block ⟨2, ![768, 512]⟩ ⟨2, ![768, 8192]⟩ 1 16 c w (by decide) (ix2 e l) = w (ix2 e ⟨c.val * 512 + l.val, by omega⟩) :=
  congrArg w (funext fun a => Fin.ext (match a with | ⟨0, _⟩ => rfl | ⟨1, _⟩ => rfl))

/-- Block `c` of the output projection, cut by rows. -/
theorem block_o (w : Attend.O2) (c : Fin 16) (l : Fin 512) (n : Fin 768) :
    Layout.block ⟨2, ![512, 768]⟩ ⟨2, ![8192, 768]⟩ 0 16 c w (by decide) (ix2 l n) = w (ix2 ⟨c.val * 512 + l.val, by omega⟩ n) :=
  congrArg w (funext fun a => Fin.ext (match a with | ⟨0, _⟩ => rfl | ⟨1, _⟩ => rfl))

variable {m : (ℓ : Loc nD τ sig) → Buf (Elt Ideal) ℓ} {x : Attend.X3} {wq : Attend.Q2} {k v : Attend.K4} {wo : Attend.O2}

/-- The devices' arguments are the blocks of the whole ones. -/
theorem cut_of (hx : ∀ c, aX m c = x) (hq : ∀ c, aQ m c = Layout.block ⟨2, ![768, 512]⟩ ⟨2, ![768, 8192]⟩ 1 16 c wq (by decide))
    (hk : ∀ c, aK m c = k) (hv : ∀ c, aV m c = v)
    (ho : ∀ c, aO m c = Layout.block ⟨2, ![512, 768]⟩ ⟨2, ![8192, 768]⟩ 0 16 c wo (by decide)) : Cut m x wq k v wo where
  x := hx
  k := hk
  v := hv
  q c e h d := by
    rw [hq, block_q]
    exact congrArg (fun f => wq (ix2 e f)) (Fin.ext (by show c.val * 512 + (h.val * 64 + d.val) = c.val * 512 + h.val * 64 + d.val; omega))
  o c h d n := by
    rw [ho, block_o]
    exact congrArg (fun f => wo (ix2 f n)) (Fin.ext (by show c.val * 512 + (64 * h.val + d.val) = c.val * 512 + h.val * 64 + d.val; omega))

/-- The whole query projection is real where each device's block is. -/
theorem whole_real (hq : ∀ c, aQ m c = Layout.block ⟨2, ![768, 512]⟩ ⟨2, ![768, 8192]⟩ 1 16 c wq (by decide))
    (hr : ∀ c i, Attend.IsReal (aQ m c i)) (i) : Attend.IsReal (wq i) := by
  obtain ⟨e, f, rfl⟩ : ∃ (e : Fin 768) (f : Fin 8192), i = ix2 e f := ⟨i 0, i 1, eq_ix2 i⟩
  have h := hr (⟨f.val / 512, by show _ < 16; omega⟩ : Fin 16) (ix2 e ⟨f.val % 512, Nat.mod_lt _ (by decide)⟩)
  rw [hq, block_q] at h
  rwa [show (⟨f.val / 512 * 512 + f.val % 512, by omega⟩ : Fin 8192) = f from Fin.ext (by show f.val / 512 * 512 + f.val % 512 = f.val; omega)] at h

/-- Every device's result is the reference's. -/
theorem result_eq (m' : (ℓ : Loc Cert.ReferenceIdeal.nD Cert.ReferenceIdeal.τ Cert.ReferenceIdeal.sig) → Buf (Elt Ideal) ℓ)
    (c' : Dev Cert.ReferenceIdeal.nD)
    (H : Cut m (m' ((c'.tc : Thread _ _).loc Cert.ReferenceIdeal.main_arg0)) (m' ((c'.tc : Thread _ _).loc Cert.ReferenceIdeal.main_arg1))
      (m' ((c'.tc : Thread _ _).loc Cert.ReferenceIdeal.main_arg2)) (m' ((c'.tc : Thread _ _).loc Cert.ReferenceIdeal.main_arg3))
      (m' ((c'.tc : Thread _ _).loc Cert.ReferenceIdeal.main_arg4)))
    (hx : ∀ i, Attend.IsReal (m' ((c'.tc : Thread _ _).loc Cert.ReferenceIdeal.main_arg0) i))
    (hq : ∀ i, Attend.IsReal (m' ((c'.tc : Thread _ _).loc Cert.ReferenceIdeal.main_arg1) i))
    (hk : ∀ i, Attend.IsReal (m' ((c'.tc : Thread _ _).loc Cert.ReferenceIdeal.main_arg2) i)) (c : Dev nD) :
    (V3 m (outs m) c main_v22 : S2x512x768.Idx → EReal) = Cert.ReferenceIdeal.Value.res_main_v48 m' c' := by
  funext i
  obtain ⟨b, r, n, rfl⟩ : ∃ (b : Fin 2) (r : Fin 512) (n : Fin 768), i = ix3 b r n := ⟨i 0, i 1, i 2, eq_ix3 i⟩
  exact (result_at H c b r n).trans (Cert.ReferenceIdeal.Value.ref_at m' c' hx hq hk b r n).symm

end Cert.KernelIdeal.Net
-- ==== Proof.lean ====
/-
  The claims of this certificate, each from the run of its program.

  `Proof/Run.lean` runs the kernel once, at any arithmetic; the program as written and its idealization are the same text, so
  the one run gives both frames. The reference is a single-device program of host lines, and its run is the generated one.
  Over the extended reals both runs end with the attention layer of `Proof/Attend.lean` (`Proof/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Value
public import proofs.«01_k».proof.Proof.Gen.Pre_finite_KernelIdeal
public import proofs.«01_k».proof.Proof.Gen.Pre_finite_ReferenceIdeal
public import Idealize.ShloMosaic.Adequacy
public import Idealize.ShloMosaic.Init

@[expose] public section

set_option maxRecDepth 100000

noncomputable section

namespace Cert.Proof

open Idealize.ShloMosaic Idealize.SL.Sem Cert.Kernel

/-- The two programs' kernels are the same text. -/
theorem calls_eq : @Cert.Kernel.defs₀ Bits _ Cert.Kernel.Gen.facts = @Cert.KernelIdeal.defs₀ Bits _ Cert.KernelIdeal.Gen.facts :=
  congrArg Defs.onTc (funext fun l => match l with
    | 0 => funext fun a => match a with | (_, _) => rfl
    | ⟨_ + 1, h⟩ => absurd h (Nat.not_lt.2 (Nat.le_add_left _ _)))

theorem defs_eq : @Cert.Kernel.defs Bits _ Cert.Kernel.Gen.facts = @Cert.KernelIdeal.defs Bits _ Cert.KernelIdeal.Gen.facts :=
  congrArg (Pipeline.defs Cert.KernelIdeal.pcfgs) calls_eq

theorem main_same : @Cert.Kernel.main Bits _ Cert.Kernel.Gen.facts = @Cert.KernelIdeal.main Bits _ Cert.KernelIdeal.Gen.facts := rfl

/-- The program as written: the run at the machine's arithmetic. -/
theorem frame_kernel : Cert.quiescent_Kernel := by
  intro m ρ _
  rw [defs_eq, main_same]
  exact (θ_run Cert.KernelIdeal.defs _ _).mono (fun _ h => ⟨fun c => (h.1 c).1, h.2⟩) (Cert.KernelIdeal.Net.run_main (F := Bits) m ρ)

/-- Its idealization: the run at exact arithmetic. -/
theorem frame_ideal : Cert.quiescent_KernelIdeal := fun m ρ _ =>
  (θ_run Cert.KernelIdeal.defs _ _).mono (fun _ h => ⟨fun c => (h.1 c).1, h.2⟩) (Cert.KernelIdeal.Net.run_main (F := Ideal) m ρ)

/-- The reference. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

/-- No operation is replaced. -/
theorem preserves : Cert.preserves_Kernel_KernelIdeal := trivial

/-! ## The value -/

/-- The precondition, of one device: its `x`, its block of the query projection and its `K` are real. -/
theorem reals (m : (ℓ : Loc Cert.KernelIdeal.nD Cert.KernelIdeal.τ Cert.KernelIdeal.sig) → Buf (Elt Ideal) ℓ)
    (hp : Cert.Pre_KernelIdeal_finite_KernelIdeal m) (c : Dev Cert.KernelIdeal.nD) :
    (∀ i, Attend.IsReal (Cert.KernelIdeal.Net.aX m c i)) ∧ (∀ i, Attend.IsReal (Cert.KernelIdeal.Net.aQ m c i))
      ∧ (∀ i, Attend.IsReal (Cert.KernelIdeal.Net.aK m c i)) :=
  ⟨fun i => Cert.KernelIdeal.Net.real_of_lt (congrFun (hp c).1 i), fun i => Cert.KernelIdeal.Net.real_of_lt (congrFun (hp c).2.1 i),
    fun i => Cert.KernelIdeal.Net.real_of_lt (congrFun (hp c).2.2 i)⟩

/-- Every device ends with the reference's result. -/
theorem algebraic : Cert.algebraic_KernelIdeal_ReferenceIdeal_pre_finite_KernelIdeal := by
  intro m g m' g' hp ha
  have hx : ∀ c, Cert.KernelIdeal.Net.aX m c = _ := fun c => (ha c).1
  have hq : ∀ c, Cert.KernelIdeal.Net.aQ m c = _ := fun c => (ha c).2.1
  have hk : ∀ c, Cert.KernelIdeal.Net.aK m c = _ := fun c => (ha c).2.2.1
  have H := Cert.KernelIdeal.Net.cut_of hx hq hk (fun c => (ha c).2.2.2.1) (fun c => (ha c).2.2.2.2)
  have e := Cert.KernelIdeal.Net.result_eq m' 0 H (fun i => (hx 0) ▸ (reals m hp 0).1 i)
    (Cert.KernelIdeal.Net.whole_real hq fun c => (reals m hp c).2.1) (fun i => (hk 0) ▸ (reals m hp 0).2.2 i)
  exact ⟨Cert.ReferenceIdeal.Value.res_main_v48 m' 0,
    (θ_run Cert.KernelIdeal.defs _ _).mono (fun _ h c => ⟨((h.1 c).2).trans (e c), (h.1 c).1⟩) (Cert.KernelIdeal.Net.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_reference, fun m ρ _ => frame_reference m ρ trivial,
  preserves, algebraic⟩

end Cert.Proof

end
